-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![1, 2048, 8, 128]⟩ ⟨4, ![1, 65536, 8, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 2048, 8, 128]⟩ ⟨4, ![1, 65536, 8, 128]⟩ 1 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S512x1024 : Shape := ⟨2, ![512, 1024]⟩
abbrev S2x512x8 : Shape := ⟨3, ![2, 512, 8]⟩
abbrev S5 : Shape := ⟨1, ![5]⟩
abbrev S_ : Shape := ⟨0, ![]⟩
abbrev S512x128 : Shape := ⟨2, ![512, 128]⟩
abbrev S1x2048x1x128 : Shape := ⟨4, ![1, 2048, 1, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S256x1024 : Shape := ⟨2, ![256, 1024]⟩
abbrev S2x256x8 : Shape := ⟨3, ![2, 256, 8]⟩
abbrev S1x256x8 : Shape := ⟨3, ![1, 256, 8]⟩
abbrev S256x8 : Shape := ⟨2, ![256, 8]⟩
abbrev S256x128 : Shape := ⟨2, ![256, 128]⟩
abbrev S256x1 : Shape := ⟨2, ![256, 1]⟩
abbrev S128x1024 : Shape := ⟨2, ![128, 1024]⟩
abbrev S2x128x8 : Shape := ⟨3, ![2, 128, 8]⟩
abbrev S1x128x8 : Shape := ⟨3, ![1, 128, 8]⟩
abbrev S128x8 : Shape := ⟨2, ![128, 8]⟩
abbrev S128x128 : Shape := ⟨2, ![128, 128]⟩
abbrev S128x1 : Shape := ⟨2, ![128, 1]⟩
abbrev S64x1024 : Shape := ⟨2, ![64, 1024]⟩
abbrev S2x64x8 : Shape := ⟨3, ![2, 64, 8]⟩
abbrev S1x64x8 : Shape := ⟨3, ![1, 64, 8]⟩
abbrev S64x8 : Shape := ⟨2, ![64, 8]⟩
abbrev S64x128 : Shape := ⟨2, ![64, 128]⟩
abbrev S64x1 : Shape := ⟨2, ![64, 1]⟩
abbrev S32x1024 : Shape := ⟨2, ![32, 1024]⟩
abbrev S2x32x8 : Shape := ⟨3, ![2, 32, 8]⟩
abbrev S1x32x8 : Shape := ⟨3, ![1, 32, 8]⟩
abbrev S32x8 : Shape := ⟨2, ![32, 8]⟩
abbrev S32x128 : Shape := ⟨2, ![32, 128]⟩
abbrev S32x1 : Shape := ⟨2, ![32, 1]⟩
abbrev S16x1024 : Shape := ⟨2, ![16, 1024]⟩
abbrev S2x16x8 : Shape := ⟨3, ![2, 16, 8]⟩
abbrev S1x16x8 : Shape := ⟨3, ![1, 16, 8]⟩
abbrev S16x8 : Shape := ⟨2, ![16, 8]⟩
abbrev S16x128 : Shape := ⟨2, ![16, 128]⟩
abbrev S16x1 : Shape := ⟨2, ![16, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1x2048x8x128, .bf16⟩
  | .hbm, ⟨4, _⟩ => ⟨S1x2048x8x128, .bf16⟩
  | .hbm, ⟨5, _⟩ => ⟨S1x512x1024, .f32⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x2048x8x128, .bf16⟩
  | .local _ .vmem, ⟨4, _⟩ => ⟨S1x2048x8x128, .bf16⟩
  | .local _ .vmem, ⟨5, _⟩ => ⟨S1x512x1024, .f32⟩
  | .local _ .vmem, ⟨6, _⟩ => ⟨S512x1024, .f32⟩
  | .local _ .vmem, ⟨7, _⟩ => ⟨S512x1024, .bf16⟩
  | .local _ .vmem, ⟨8, _⟩ => ⟨S2x512x8, .f32⟩
  | .local _ .vmem, ⟨9, _⟩ => ⟨S512x1024, .bf16⟩
  | .local _ .vmem, ⟨10, _⟩ => ⟨S2x512x8, .f32⟩
  | .local _ .vmem, ⟨11, _⟩ => ⟨S512x1024, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let c0_i32_188 : BitVec 32 := 0#32
  let c1_i32_186 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let v263 : BitVec 32 := Scalar.subi c1_i32_186 v260
  let c256_i32_187 : BitVec 32 := 256#32
  let v264 : BitVec 32 := Scalar.muli v263 c256_i32_187
  let v265 : BitVec 32 := Scalar.addi c0_i32_188 v264
  let c0_i32_195 : BitVec 32 := 0#32
  ![v265.toNat, 0]
def k0_dev6 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_182 : BitVec 32 := 16#32
  let v258 : BitVec 32 := Scalar.xori v2 c16_i32_182
  let c1_i32_191 : BitVec 32 := 1#32
  let v266 : BitVec 32 := Scalar.muli v258 c1_i32_191
  let v267 : BitVec 32 := Scalar.addi c0_i32_192 v266
  v267.toNat
def k0_off2 (d0 : Dev nD) : Fin 3 → Nat :=
  let c0_i32_203 : BitVec 32 := 0#32
  let c0_i32_188 : BitVec 32 := 0#32
  let c1_i32_186 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let v263 : BitVec 32 := Scalar.subi c1_i32_186 v260
  let c256_i32_187 : BitVec 32 := 256#32
  let v264 : BitVec 32 := Scalar.muli v263 c256_i32_187
  let v265 : BitVec 32 := Scalar.addi c0_i32_188 v264
  let c0_i32_204 : BitVec 32 := 0#32
  ![0, v265.toNat, 0]
def k0_dev7 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_182 : BitVec 32 := 16#32
  let v258 : BitVec 32 := Scalar.xori v2 c16_i32_182
  let c1_i32_198 : BitVec 32 := 1#32
  let v274 : BitVec 32 := Scalar.muli v258 c1_i32_198
  let v275 : BitVec 32 := Scalar.addi c0_i32_199 v274
  v275.toNat
def k0_off3 (d0 : Dev nD) : Fin 3 → Nat :=
  let c0_235 : Index := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v302 : Index := Scalar.indexCast v262
  let c0_236 : Index := 0#32
  ![0, v302.toNat, 0]
def k0_off4 (d0 : Dev nD) : Fin 3 → Nat :=
  let c1_237 : Index := 1#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v305 : Index := Scalar.indexCast v262
  let c0_238 : Index := 0#32
  ![1, v305.toNat, 0]
def k0_off5 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v328 : Index := Scalar.indexCast v262
  let c0_249 : Index := 0#32
  ![v328.toNat, 0]
def k0_off6 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v348 : Index := Scalar.indexCast v262
  let c128_254 : Index := 128#32
  ![v348.toNat, 128]
def k0_off7 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v368 : Index := Scalar.indexCast v262
  let c256_259 : Index := 256#32
  ![v368.toNat, 256]
def k0_off8 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v388 : Index := Scalar.indexCast v262
  let c384_264 : Index := 384#32
  ![v388.toNat, 384]
def k0_off9 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v408 : Index := Scalar.indexCast v262
  let c512_269 : Index := 512#32
  ![v408.toNat, 512]
def k0_off10 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v428 : Index := Scalar.indexCast v262
  let c640_274 : Index := 640#32
  ![v428.toNat, 640]
def k0_off11 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v448 : Index := Scalar.indexCast v262
  let c768_279 : Index := 768#32
  ![v448.toNat, 768]
def k0_off12 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let v468 : Index := Scalar.indexCast v262
  let c896_284 : Index := 896#32
  ![v468.toNat, 896]
def k0_off13 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c1_i32_291 : BitVec 32 := 1#32
  let c3_i32 : BitVec 32 := 3#32
  let v489 : BitVec 32 := Scalar.shrsi v2 c3_i32
  let c1_i32_290 : BitVec 32 := 1#32
  let v490 : BitVec 32 := Scalar.andi v489 c1_i32_290
  let v493 : BitVec 32 := Scalar.subi c1_i32_291 v490
  let c128_i32_292 : BitVec 32 := 128#32
  let v494 : BitVec 32 := Scalar.muli v493 c128_i32_292
  let v495 : BitVec 32 := Scalar.addi v262 v494
  let c0_i32_299 : BitVec 32 := 0#32
  ![v495.toNat, 0]
def k0_dev8 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_289 : BitVec 32 := 8#32
  let v488 : BitVec 32 := Scalar.xori v2 c8_i32_289
  let c1_i32_295 : BitVec 32 := 1#32
  let v496 : BitVec 32 := Scalar.muli v488 c1_i32_295
  let v497 : BitVec 32 := Scalar.addi c0_i32_296 v496
  v497.toNat
def k0_off14 (d0 : Dev nD) : Fin 3 → Nat :=
  let c0_i32_307 : BitVec 32 := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c1_i32_291 : BitVec 32 := 1#32
  let c3_i32 : BitVec 32 := 3#32
  let v489 : BitVec 32 := Scalar.shrsi v2 c3_i32
  let c1_i32_290 : BitVec 32 := 1#32
  let v490 : BitVec 32 := Scalar.andi v489 c1_i32_290
  let v493 : BitVec 32 := Scalar.subi c1_i32_291 v490
  let c128_i32_292 : BitVec 32 := 128#32
  let v494 : BitVec 32 := Scalar.muli v493 c128_i32_292
  let v495 : BitVec 32 := Scalar.addi v262 v494
  let c0_i32_308 : BitVec 32 := 0#32
  ![0, v495.toNat, 0]
def k0_dev9 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_289 : BitVec 32 := 8#32
  let v488 : BitVec 32 := Scalar.xori v2 c8_i32_289
  let c1_i32_302 : BitVec 32 := 1#32
  let v504 : BitVec 32 := Scalar.muli v488 c1_i32_302
  let v505 : BitVec 32 := Scalar.addi c0_i32_303 v504
  v505.toNat
def k0_off15 (d0 : Dev nD) : Fin 3 → Nat :=
  let c0_339 : Index := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v532 : Index := Scalar.indexCast v492
  let c0_340 : Index := 0#32
  ![0, v532.toNat, 0]
def k0_off16 (d0 : Dev nD) : Fin 3 → Nat :=
  let c1_341 : Index := 1#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v535 : Index := Scalar.indexCast v492
  let c0_342 : Index := 0#32
  ![1, v535.toNat, 0]
def k0_off17 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v558 : Index := Scalar.indexCast v492
  let c0_353 : Index := 0#32
  ![v558.toNat, 0]
def k0_off18 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v578 : Index := Scalar.indexCast v492
  let c128_358 : Index := 128#32
  ![v578.toNat, 128]
def k0_off19 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v598 : Index := Scalar.indexCast v492
  let c256_363 : Index := 256#32
  ![v598.toNat, 256]
def k0_off20 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v618 : Index := Scalar.indexCast v492
  let c384_368 : Index := 384#32
  ![v618.toNat, 384]
def k0_off21 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v638 : Index := Scalar.indexCast v492
  let c512_373 : Index := 512#32
  ![v638.toNat, 512]
def k0_off22 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v658 : Index := Scalar.indexCast v492
  let c640_378 : Index := 640#32
  ![v658.toNat, 640]
def k0_off23 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v678 : Index := Scalar.indexCast v492
  let c768_383 : Index := 768#32
  ![v678.toNat, 768]
def k0_off24 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let v698 : Index := Scalar.indexCast v492
  let c896_388 : Index := 896#32
  ![v698.toNat, 896]
def k0_off25 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c1_i32_396 : BitVec 32 := 1#32
  let c2_i32_394 : BitVec 32 := 2#32
  let v719 : BitVec 32 := Scalar.shrsi v2 c2_i32_394
  let c1_i32_395 : BitVec 32 := 1#32
  let v720 : BitVec 32 := Scalar.andi v719 c1_i32_395
  let v723 : BitVec 32 := Scalar.subi c1_i32_396 v720
  let c64_i32_397 : BitVec 32 := 64#32
  let v724 : BitVec 32 := Scalar.muli v723 c64_i32_397
  let v725 : BitVec 32 := Scalar.addi v492 v724
  let c0_i32_403 : BitVec 32 := 0#32
  ![v725.toNat, 0]
def k0_dev10 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_393 : BitVec 32 := 4#32
  let v718 : BitVec 32 := Scalar.xori v2 c4_i32_393
  let c1_i32_400 : BitVec 32 := 1#32
  let v726 : BitVec 32 := Scalar.muli v718 c1_i32_400
  let v727 : BitVec 32 := Scalar.addi c0_i32_401 v726
  v727.toNat
def k0_off26 (d0 : Dev nD) : Fin 3 → Nat :=
  let c0_i32_411 : BitVec 32 := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c1_i32_396 : BitVec 32 := 1#32
  let c2_i32_394 : BitVec 32 := 2#32
  let v719 : BitVec 32 := Scalar.shrsi v2 c2_i32_394
  let c1_i32_395 : BitVec 32 := 1#32
  let v720 : BitVec 32 := Scalar.andi v719 c1_i32_395
  let v723 : BitVec 32 := Scalar.subi c1_i32_396 v720
  let c64_i32_397 : BitVec 32 := 64#32
  let v724 : BitVec 32 := Scalar.muli v723 c64_i32_397
  let v725 : BitVec 32 := Scalar.addi v492 v724
  let c0_i32_412 : BitVec 32 := 0#32
  ![0, v725.toNat, 0]
def k0_dev11 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_393 : BitVec 32 := 4#32
  let v718 : BitVec 32 := Scalar.xori v2 c4_i32_393
  let c1_i32_406 : BitVec 32 := 1#32
  let v734 : BitVec 32 := Scalar.muli v718 c1_i32_406
  let v735 : BitVec 32 := Scalar.addi c0_i32_407 v734
  v735.toNat
def k0_off27 (d0 : Dev nD) : Fin 3 → Nat :=
  let c0_443 : Index := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v762 : Index := Scalar.indexCast v722
  let c0_444 : Index := 0#32
  ![0, v762.toNat, 0]
def k0_off28 (d0 : Dev nD) : Fin 3 → Nat :=
  let c1_445 : Index := 1#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v765 : Index := Scalar.indexCast v722
  let c0_446 : Index := 0#32
  ![1, v765.toNat, 0]
def k0_off29 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v788 : Index := Scalar.indexCast v722
  let c0_457 : Index := 0#32
  ![v788.toNat, 0]
def k0_off30 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v808 : Index := Scalar.indexCast v722
  let c128_462 : Index := 128#32
  ![v808.toNat, 128]
def k0_off31 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v828 : Index := Scalar.indexCast v722
  let c256_467 : Index := 256#32
  ![v828.toNat, 256]
def k0_off32 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v848 : Index := Scalar.indexCast v722
  let c384_472 : Index := 384#32
  ![v848.toNat, 384]
def k0_off33 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v868 : Index := Scalar.indexCast v722
  let c512_477 : Index := 512#32
  ![v868.toNat, 512]
def k0_off34 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v888 : Index := Scalar.indexCast v722
  let c640_482 : Index := 640#32
  ![v888.toNat, 640]
def k0_off35 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v908 : Index := Scalar.indexCast v722
  let c768_487 : Index := 768#32
  ![v908.toNat, 768]
def k0_off36 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let v928 : Index := Scalar.indexCast v722
  let c896_492 : Index := 896#32
  ![v928.toNat, 896]
def k0_off37 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_501 : BitVec 32 := 1#32
  let c1_i32_498 : BitVec 32 := 1#32
  let v949 : BitVec 32 := Scalar.shrsi v2 c1_i32_498
  let c1_i32_499 : BitVec 32 := 1#32
  let v950 : BitVec 32 := Scalar.andi v949 c1_i32_499
  let v953 : BitVec 32 := Scalar.subi c1_i32_501 v950
  let c32_i32_502 : BitVec 32 := 32#32
  let v954 : BitVec 32 := Scalar.muli v953 c32_i32_502
  let v955 : BitVec 32 := Scalar.addi v722 v954
  let c0_i32_508 : BitVec 32 := 0#32
  ![v955.toNat, 0]
def k0_dev12 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_497 : BitVec 32 := 2#32
  let v948 : BitVec 32 := Scalar.xori v2 c2_i32_497
  let c1_i32_505 : BitVec 32 := 1#32
  let v956 : BitVec 32 := Scalar.muli v948 c1_i32_505
  let v957 : BitVec 32 := Scalar.addi c0_i32_506 v956
  v957.toNat
def k0_off38 (d0 : Dev nD) : Fin 3 → Nat :=
  let c0_i32_516 : BitVec 32 := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_501 : BitVec 32 := 1#32
  let c1_i32_498 : BitVec 32 := 1#32
  let v949 : BitVec 32 := Scalar.shrsi v2 c1_i32_498
  let c1_i32_499 : BitVec 32 := 1#32
  let v950 : BitVec 32 := Scalar.andi v949 c1_i32_499
  let v953 : BitVec 32 := Scalar.subi c1_i32_501 v950
  let c32_i32_502 : BitVec 32 := 32#32
  let v954 : BitVec 32 := Scalar.muli v953 c32_i32_502
  let v955 : BitVec 32 := Scalar.addi v722 v954
  let c0_i32_517 : BitVec 32 := 0#32
  ![0, v955.toNat, 0]
def k0_dev13 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_497 : BitVec 32 := 2#32
  let v948 : BitVec 32 := Scalar.xori v2 c2_i32_497
  let c1_i32_511 : BitVec 32 := 1#32
  let v964 : BitVec 32 := Scalar.muli v948 c1_i32_511
  let v965 : BitVec 32 := Scalar.addi c0_i32_512 v964
  v965.toNat
def k0_off39 (d0 : Dev nD) : Fin 3 → Nat :=
  let c0_548 : Index := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v992 : Index := Scalar.indexCast v952
  let c0_549 : Index := 0#32
  ![0, v992.toNat, 0]
def k0_off40 (d0 : Dev nD) : Fin 3 → Nat :=
  let c1_550 : Index := 1#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v995 : Index := Scalar.indexCast v952
  let c0_551 : Index := 0#32
  ![1, v995.toNat, 0]
def k0_off41 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1018 : Index := Scalar.indexCast v952
  let c0_561 : Index := 0#32
  ![v1018.toNat, 0]
def k0_off42 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1038 : Index := Scalar.indexCast v952
  let c128_566 : Index := 128#32
  ![v1038.toNat, 128]
def k0_off43 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1058 : Index := Scalar.indexCast v952
  let c256_571 : Index := 256#32
  ![v1058.toNat, 256]
def k0_off44 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1078 : Index := Scalar.indexCast v952
  let c384_576 : Index := 384#32
  ![v1078.toNat, 384]
def k0_off45 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1098 : Index := Scalar.indexCast v952
  let c512_581 : Index := 512#32
  ![v1098.toNat, 512]
def k0_off46 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1118 : Index := Scalar.indexCast v952
  let c640_586 : Index := 640#32
  ![v1118.toNat, 640]
def k0_off47 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1138 : Index := Scalar.indexCast v952
  let c768_591 : Index := 768#32
  ![v1138.toNat, 768]
def k0_off48 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let v1158 : Index := Scalar.indexCast v952
  let c896_596 : Index := 896#32
  ![v1158.toNat, 896]
def k0_off49 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c1_i32_605 : BitVec 32 := 1#32
  let c0_i32_602 : BitVec 32 := 0#32
  let v1179 : BitVec 32 := Scalar.shrsi v2 c0_i32_602
  let c1_i32_603 : BitVec 32 := 1#32
  let v1180 : BitVec 32 := Scalar.andi v1179 c1_i32_603
  let v1183 : BitVec 32 := Scalar.subi c1_i32_605 v1180
  let c16_i32_606 : BitVec 32 := 16#32
  let v1184 : BitVec 32 := Scalar.muli v1183 c16_i32_606
  let v1185 : BitVec 32 := Scalar.addi v952 v1184
  let c0_i32_612 : BitVec 32 := 0#32
  ![v1185.toNat, 0]
def k0_dev14 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_601 : BitVec 32 := 1#32
  let v1178 : BitVec 32 := Scalar.xori v2 c1_i32_601
  let c1_i32_609 : BitVec 32 := 1#32
  let v1186 : BitVec 32 := Scalar.muli v1178 c1_i32_609
  let v1187 : BitVec 32 := Scalar.addi c0_i32_610 v1186
  v1187.toNat
def k0_off50 (d0 : Dev nD) : Fin 3 → Nat :=
  let c0_i32_620 : BitVec 32 := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c1_i32_605 : BitVec 32 := 1#32
  let c0_i32_602 : BitVec 32 := 0#32
  let v1179 : BitVec 32 := Scalar.shrsi v2 c0_i32_602
  let c1_i32_603 : BitVec 32 := 1#32
  let v1180 : BitVec 32 := Scalar.andi v1179 c1_i32_603
  let v1183 : BitVec 32 := Scalar.subi c1_i32_605 v1180
  let c16_i32_606 : BitVec 32 := 16#32
  let v1184 : BitVec 32 := Scalar.muli v1183 c16_i32_606
  let v1185 : BitVec 32 := Scalar.addi v952 v1184
  let c0_i32_621 : BitVec 32 := 0#32
  ![0, v1185.toNat, 0]
def k0_dev15 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_601 : BitVec 32 := 1#32
  let v1178 : BitVec 32 := Scalar.xori v2 c1_i32_601
  let c1_i32_615 : BitVec 32 := 1#32
  let v1194 : BitVec 32 := Scalar.muli v1178 c1_i32_615
  let v1195 : BitVec 32 := Scalar.addi c0_i32_616 v1194
  v1195.toNat
def k0_off51 (d0 : Dev nD) : Fin 3 → Nat :=
  let c0_652 : Index := 0#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1222 : Index := Scalar.indexCast v1182
  let c0_653 : Index := 0#32
  ![0, v1222.toNat, 0]
def k0_off52 (d0 : Dev nD) : Fin 3 → Nat :=
  let c1_654 : Index := 1#32
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1225 : Index := Scalar.indexCast v1182
  let c0_655 : Index := 0#32
  ![1, v1225.toNat, 0]
def k0_off53 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1248 : Index := Scalar.indexCast v1182
  let c0_665 : Index := 0#32
  ![v1248.toNat, 0]
def k0_off54 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1263 : Index := Scalar.indexCast v1182
  let c128_669 : Index := 128#32
  ![v1263.toNat, 128]
def k0_off55 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1278 : Index := Scalar.indexCast v1182
  let c256_673 : Index := 256#32
  ![v1278.toNat, 256]
def k0_off56 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1293 : Index := Scalar.indexCast v1182
  let c384_677 : Index := 384#32
  ![v1293.toNat, 384]
def k0_off57 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1308 : Index := Scalar.indexCast v1182
  let c512_681 : Index := 512#32
  ![v1308.toNat, 512]
def k0_off58 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1323 : Index := Scalar.indexCast v1182
  let c640_685 : Index := 640#32
  ![v1323.toNat, 640]
def k0_off59 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1338 : Index := Scalar.indexCast v1182
  let c768_689 : Index := 768#32
  ![v1338.toNat, 768]
def k0_off60 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1353 : Index := Scalar.indexCast v1182
  let c896_693 : Index := 896#32
  ![v1353.toNat, 896]
def k0_off61 (d0 : Dev nD) : Fin 2 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v259 : BitVec 32 := Scalar.shrsi v2 c4_i32_183
  let c1_i32_184 : BitVec 32 := 1#32
  let v260 : BitVec 32 := Scalar.andi v259 c1_i32_184
  let c256_i32 : BitVec 32 := 256#32
  let v261 : BitVec 32 := Scalar.muli v260 c256_i32
  let v262 : BitVec 32 := Scalar.addi c0_i32_185 v261
  let c3_i32 : BitVec 32 := 3#32
  let v489 : BitVec 32 := Scalar.shrsi v2 c3_i32
  let c1_i32_290 : BitVec 32 := 1#32
  let v490 : BitVec 32 := Scalar.andi v489 c1_i32_290
  let c128_i32 : BitVec 32 := 128#32
  let v491 : BitVec 32 := Scalar.muli v490 c128_i32
  let v492 : BitVec 32 := Scalar.addi v262 v491
  let c2_i32_394 : BitVec 32 := 2#32
  let v719 : BitVec 32 := Scalar.shrsi v2 c2_i32_394
  let c1_i32_395 : BitVec 32 := 1#32
  let v720 : BitVec 32 := Scalar.andi v719 c1_i32_395
  let c64_i32 : BitVec 32 := 64#32
  let v721 : BitVec 32 := Scalar.muli v720 c64_i32
  let v722 : BitVec 32 := Scalar.addi v492 v721
  let c1_i32_498 : BitVec 32 := 1#32
  let v949 : BitVec 32 := Scalar.shrsi v2 c1_i32_498
  let c1_i32_499 : BitVec 32 := 1#32
  let v950 : BitVec 32 := Scalar.andi v949 c1_i32_499
  let c32_i32_500 : BitVec 32 := 32#32
  let v951 : BitVec 32 := Scalar.muli v950 c32_i32_500
  let v952 : BitVec 32 := Scalar.addi v722 v951
  let c0_i32_602 : BitVec 32 := 0#32
  let v1179 : BitVec 32 := Scalar.shrsi v2 c0_i32_602
  let c1_i32_603 : BitVec 32 := 1#32
  let v1180 : BitVec 32 := Scalar.andi v1179 c1_i32_603
  let c16_i32_604 : BitVec 32 := 16#32
  let v1181 : BitVec 32 := Scalar.muli v1180 c16_i32_604
  let v1182 : BitVec 32 := Scalar.addi v952 v1181
  let v1368 : Index := Scalar.indexCast v1182
  let c0_697 : Index := 0#32
  ![v1368.toNat, 0]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_705 : BitVec 32 := 0#32
  let v1416 : BitVec 32 := Scalar.shrsi v2 c0_i32_705
  let c0_i32_706 : BitVec 32 := 0#32
  let v1417 : BitVec 32 := Scalar.shli v1416 c0_i32_706
  let c16_i32_707 : BitVec 32 := 16#32
  let v1418 : BitVec 32 := Scalar.muli v1417 c16_i32_707
  let c0_i32_712 : BitVec 32 := 0#32
  ![v1418.toNat, 0]
def k0_dev16 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_704 : BitVec 32 := 1#32
  let v1415 : BitVec 32 := Scalar.xori v2 c1_i32_704
  let c1_i32_710 : BitVec 32 := 1#32
  let v1419 : BitVec 32 := Scalar.muli v1415 c1_i32_710
  let v1420 : BitVec 32 := Scalar.addi c0_i32_711 v1419
  v1420.toNat
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_726 : BitVec 32 := 1#32
  let v1438 : BitVec 32 := Scalar.shrsi v2 c1_i32_726
  let c1_i32_727 : BitVec 32 := 1#32
  let v1439 : BitVec 32 := Scalar.shli v1438 c1_i32_727
  let c16_i32_728 : BitVec 32 := 16#32
  let v1440 : BitVec 32 := Scalar.muli v1439 c16_i32_728
  let c0_i32_733 : BitVec 32 := 0#32
  ![v1440.toNat, 0]
def k0_dev17 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_725 : BitVec 32 := 2#32
  let v1437 : BitVec 32 := Scalar.xori v2 c2_i32_725
  let c1_i32_731 : BitVec 32 := 1#32
  let v1441 : BitVec 32 := Scalar.muli v1437 c1_i32_731
  let v1442 : BitVec 32 := Scalar.addi c0_i32_732 v1441
  v1442.toNat
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_747 : BitVec 32 := 2#32
  let v1460 : BitVec 32 := Scalar.shrsi v2 c2_i32_747
  let c2_i32_748 : BitVec 32 := 2#32
  let v1461 : BitVec 32 := Scalar.shli v1460 c2_i32_748
  let c16_i32_749 : BitVec 32 := 16#32
  let v1462 : BitVec 32 := Scalar.muli v1461 c16_i32_749
  let c0_i32_754 : BitVec 32 := 0#32
  ![v1462.toNat, 0]
def k0_dev18 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_746 : BitVec 32 := 4#32
  let v1459 : BitVec 32 := Scalar.xori v2 c4_i32_746
  let c1_i32_752 : BitVec 32 := 1#32
  let v1463 : BitVec 32 := Scalar.muli v1459 c1_i32_752
  let v1464 : BitVec 32 := Scalar.addi c0_i32_753 v1463
  v1464.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_768 : BitVec 32 := 3#32
  let v1482 : BitVec 32 := Scalar.shrsi v2 c3_i32_768
  let c3_i32_769 : BitVec 32 := 3#32
  let v1483 : BitVec 32 := Scalar.shli v1482 c3_i32_769
  let c16_i32_770 : BitVec 32 := 16#32
  let v1484 : BitVec 32 := Scalar.muli v1483 c16_i32_770
  let c0_i32_775 : BitVec 32 := 0#32
  ![v1484.toNat, 0]
def k0_dev19 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_767 : BitVec 32 := 8#32
  let v1481 : BitVec 32 := Scalar.xori v2 c8_i32_767
  let c1_i32_773 : BitVec 32 := 1#32
  let v1485 : BitVec 32 := Scalar.muli v1481 c1_i32_773
  let v1486 : BitVec 32 := Scalar.addi c0_i32_774 v1485
  v1486.toNat
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_789 : BitVec 32 := 4#32
  let v1504 : BitVec 32 := Scalar.shrsi v2 c4_i32_789
  let c4_i32_790 : BitVec 32 := 4#32
  let v1505 : BitVec 32 := Scalar.shli v1504 c4_i32_790
  let c16_i32_791 : BitVec 32 := 16#32
  let v1506 : BitVec 32 := Scalar.muli v1505 c16_i32_791
  let c0_i32_796 : BitVec 32 := 0#32
  ![v1506.toNat, 0]
def k0_dev20 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_788 : BitVec 32 := 16#32
  let v1503 : BitVec 32 := Scalar.xori v2 c16_i32_788
  let c1_i32_794 : BitVec 32 := 1#32
  let v1507 : BitVec 32 := Scalar.muli v1503 c1_i32_794
  let v1508 : BitVec 32 := Scalar.addi c0_i32_795 v1507
  v1508.toNat
def k0_dev21 (d0 : Dev nD) : Nat :=
  let c0_i32_817_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_814_r0 : BitVec 32 := 1#32
  let v1531_r0 : BitVec 32 := Scalar.xori v2 c1_i32_814_r0
  let c1_i32_816_r0 : BitVec 32 := 1#32
  let v1532_r0 : BitVec 32 := Scalar.muli v1531_r0 c1_i32_816_r0
  let v1533_r0 : BitVec 32 := Scalar.addi c0_i32_817_r0 v1532_r0
  v1533_r0.toNat
def k0_dev22 (d0 : Dev nD) : Nat :=
  let c0_i32_821_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_818_r0 : BitVec 32 := 2#32
  let v1534_r0 : BitVec 32 := Scalar.xori v2 c2_i32_818_r0
  let c1_i32_820_r0 : BitVec 32 := 1#32
  let v1535_r0 : BitVec 32 := Scalar.muli v1534_r0 c1_i32_820_r0
  let v1536_r0 : BitVec 32 := Scalar.addi c0_i32_821_r0 v1535_r0
  v1536_r0.toNat
def k0_dev23 (d0 : Dev nD) : Nat :=
  let c0_i32_825_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_822_r0 : BitVec 32 := 4#32
  let v1537_r0 : BitVec 32 := Scalar.xori v2 c4_i32_822_r0
  let c1_i32_824_r0 : BitVec 32 := 1#32
  let v1538_r0 : BitVec 32 := Scalar.muli v1537_r0 c1_i32_824_r0
  let v1539_r0 : BitVec 32 := Scalar.addi c0_i32_825_r0 v1538_r0
  v1539_r0.toNat
def k0_dev24 (d0 : Dev nD) : Nat :=
  let c0_i32_829_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_826_r0 : BitVec 32 := 8#32
  let v1540_r0 : BitVec 32 := Scalar.xori v2 c8_i32_826_r0
  let c1_i32_828_r0 : BitVec 32 := 1#32
  let v1541_r0 : BitVec 32 := Scalar.muli v1540_r0 c1_i32_828_r0
  let v1542_r0 : BitVec 32 := Scalar.addi c0_i32_829_r0 v1541_r0
  v1542_r0.toNat
def k0_dev25 (d0 : Dev nD) : Nat :=
  let c0_i32_833_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_830_r0 : BitVec 32 := 16#32
  let v1543_r0 : BitVec 32 := Scalar.xori v2 c16_i32_830_r0
  let c1_i32_832_r0 : BitVec 32 := 1#32
  let v1544_r0 : BitVec 32 := Scalar.muli v1543_r0 c1_i32_832_r0
  let v1545_r0 : BitVec 32 := Scalar.addi c0_i32_833_r0 v1544_r0
  v1545_r0.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x512x1024 : Shape := ⟨3, ![1, 512, 1024]⟩
abbrev S1024x1024 : Shape := ⟨2, ![1024, 1024]⟩
abbrev S1x65536x8x128 : Shape := ⟨4, ![1, 65536, 8, 128]⟩
abbrev S512x1024 : Shape := ⟨2, ![512, 1024]⟩
abbrev S512x8x128 : Shape := ⟨3, ![512, 8, 128]⟩
abbrev S65536x8x128 : Shape := ⟨3, ![65536, 8, 128]⟩
abbrev S8x512x65536 : Shape := ⟨3, ![8, 512, 65536]⟩
abbrev S_ : Shape := ⟨0, ![]⟩
abbrev S8x512 : Shape := ⟨2, ![8, 512]⟩
abbrev S8x512x1 : Shape := ⟨3, ![8, 512, 1]⟩
abbrev S8x128x512 : Shape := ⟨3, ![8, 128, 512]⟩
abbrev S512x8x1 : Shape := ⟨3, ![512, 8, 1]⟩

abbrev nBuf : Space → Nat
  | .hbm => 40
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1x65536x8x128, .bf16⟩
  | .hbm, ⟨4, _⟩ => ⟨S1x65536x8x128, .bf16⟩
  | .hbm, ⟨5, _⟩ => ⟨S512x1024, .bf16⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x8x128, .f32⟩
  | .hbm, ⟨12, _⟩ => ⟨S65536x8x128, .bf16⟩
  | .hbm, ⟨13, _⟩ => ⟨S65536x8x128, .f32⟩
  | .hbm, ⟨14, _⟩ => ⟨S65536x8x128, .bf16⟩
  | .hbm, ⟨15, _⟩ => ⟨S65536x8x128, .f32⟩
  | .hbm, ⟨16, _⟩ => ⟨S8x512x65536, .f32⟩
  | .hbm, ⟨17, _⟩ => ⟨S8x512x65536, .bf16⟩
  | .hbm, ⟨18, _⟩ => ⟨S8x512x65536, .f32⟩
  | .hbm, ⟨19, _⟩ => ⟨S_, .f32⟩
  | .hbm, ⟨20, _⟩ => ⟨S_, .f32⟩
  | .hbm, ⟨21, _⟩ => ⟨S8x512x65536, .f32⟩
  | .hbm, ⟨22, _⟩ => ⟨S8x512x65536, .f32⟩
  | .hbm, ⟨23, _⟩ => ⟨S_, .f32⟩
  | .hbm, ⟨24, _⟩ => ⟨S8x512, .f32⟩
  | .hbm, ⟨25, _⟩ => ⟨S8x512x1, .f32⟩
  | .hbm, ⟨26, _⟩ => ⟨S8x512x65536, .f32⟩
  | .hbm, ⟨27, _⟩ => ⟨S8x512x65536, .f32⟩
  | .hbm, ⟨28, _⟩ => ⟨S8x512x65536, .f32⟩
  | .hbm, ⟨29, _⟩ => ⟨S_, .f32⟩
  | .hbm, ⟨30, _⟩ => ⟨S8x512, .f32⟩
  | .hbm, ⟨31, _⟩ => ⟨S8x512x1, .f32⟩
  | .hbm, ⟨32, _⟩ => ⟨S8x128x512, .f32⟩
  | .hbm, ⟨33, _⟩ => ⟨S512x8x128, .f32⟩
  | .hbm, ⟨34, _⟩ => ⟨S512x8x1, .f32⟩
  | .hbm, ⟨35, _⟩ => ⟨S512x8x128, .f32⟩
  | .hbm, ⟨36, _⟩ => ⟨S512x8x128, .f32⟩
  | .hbm, ⟨37, _⟩ => ⟨S1x512x1024, .f32⟩
  | .hbm, ⟨38, _⟩ => ⟨S1024x1024, .f32⟩
  | .hbm, ⟨39, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.KernelIdeal.Prog.lean ====
/-
  The kernel's body as stages written once each: the local attention of one head, one exchange-and-merge round of the
  reduce-scatter, the closing division and projection, one round of the all-gather, the two barriers. The printed body is
  their sequence (`body_eq`), so that each stage is reasoned about once, at any head, any round size and any device.
-/
module

public import proofs.«01_k».proof.Proof.Gen.KernelIdeal.Skeleton
public import Idealize.ShloMosaic.Lib.Pipeline.Regions

@[expose] public section

noncomputable section

namespace Cert.KernelIdeal.K

open Idealize.ShloMosaic Idealize.SL.Sem
open Cert.KernelIdeal Cert.KernelIdeal.Gen

variable {F : FTy → Type} [FloatOps F] [Named F]

/-- The effects of the body. -/
abbrev BE (F : FTy → Type) [FloatOps F] := TpuEff nD τ sig (Elt F) Λ₀ .tc

/-- Rows of a slab of the accumulators: `n` of them, all columns. -/
abbrev SR (n : ℕ) : Shape := ⟨2, ![n, 1024]⟩
/-- One head's strip of `n` rows. -/
abbrev SH (n : ℕ) : Shape := ⟨2, ![n, 128]⟩
/-- The two statistics of `n` rows. -/
abbrev ST (n : ℕ) : Shape := ⟨3, ![2, n, 8]⟩
/-- One statistic of `n` rows, as stored. -/
abbrev SP (n : ℕ) : Shape := ⟨3, ![1, n, 8]⟩
/-- One statistic of `n` rows. -/
abbrev SQ (n : ℕ) : Shape := ⟨2, ![n, 8]⟩
/-- One column of `n` rows. -/
abbrev SC (n : ℕ) : Shape := ⟨2, ![n, 1]⟩

section Stages

variable (arg0 : Memref sig .tc .vmem S1x512x1024 .bf16) (harg0 : arg0.IsWhole) (arg1 : Memref sig .tc .vmem S1024x1024 .bf16) (harg1 : arg1.IsWhole) (arg2 : Memref sig .tc .vmem S1024x1024 .bf16) (harg2 : arg2.IsWhole) (arg3 : Memref sig .tc .vmem S1x2048x8x128 .bf16) (harg3 : arg3.IsWhole) (arg4 : Memref sig .tc .vmem S1x2048x8x128 .bf16) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S2x512x8 .f32) (harg8 : arg8.IsWhole) (arg9 : Memref sig .tc .vmem S512x1024 .bf16) (harg9 : arg9.IsWhole) (arg10 : Memref sig .tc .vmem S2x512x8 .f32) (harg10 : arg10.IsWhole) (arg11 : Memref sig .tc .vmem S512x1024 .bf16) (harg11 : arg11.IsWhole) (arg12 : DmaSems sig S5) (arg13 : DmaSems sig S5) (arg14 : DmaSems sig S5) (arg15 : DmaSems sig S5) (arg16 : DmaSems sig S5) (arg17 : DmaSems sig S5) (v1530_r0 : Sems sig S_)

/-! ## One head of the local attention -/

theorem kv_inb : ∀ h : Fin 8, ∀ a, (![0, 0, h.val, 0] : Fin 4 → ℕ) a + S1x2048x1x128.size a ≤ S1x2048x8x128.size a := by decide
theorem strip_inb : ∀ h : Fin 8, ∀ a, (![0, 128 * h.val] : Fin 2 → ℕ) a + S512x128.size a ≤ S512x1024.size a := by decide
theorem strip_packed : ∀ h : Fin 8, (Rect.unit (s := S512x1024) ![0, 128 * h.val] S512x128.size (strip_inb h)).PackedRows (EltTy.packing .bf16) := by decide +kernel
theorem plane_inb : ∀ p : Fin 2, ∀ h : Fin 8, ∀ a, (![p.val, 0, h.val] : Fin 3 → ℕ) a + S1x512x1.size a ≤ S2x512x8.size a := by decide
theorem strip_slices : ∀ h : Fin 8, S512x1024.Slices ![0, 128 * h.val] S512x128 := by decide

/-- The scores of head `h`: the scaled query's strip against the head's keys. -/
def headS (q : FVec F S512x1024 .f32) (h : Fin 8) (k : Vec F S1x2048x1x128 .bf16) : FVec F S512x2048 .f32 :=
  matmul dot_S512x128_S2048x128_S512x2048_1_1_0_0_n_n none
    (truncf .bf16 (extractStridedSlice S512x128 ![0, 128 * h.val] q (strip_slices h)) bitsLt_bf16_f32)
    (shapeCast S2048x128 k shapeCasts_S1x2048x1x128_S2048x128) (constant S512x2048 .f32 0x00000000#32)
/-- Their row maxima. -/
def headM (q : FVec F S512x1024 .f32) (h : Fin 8) (k : Vec F S1x2048x1x128 .bf16) : FVec F S512x1 .f32 :=
  shapeCast S512x1 (multiReduction .maximumf [1] S512 (headS q h k) 0xFF800000#32 reduces_S512x2048_S512 (.inl rfl) rfl) shapeCasts_S512_S512x1
/-- The exponentials of the scores less their row maxima. -/
def headP (q : FVec F S512x1024 .f32) (h : Fin 8) (k : Vec F S1x2048x1x128 .bf16) : FVec F S512x2048 .f32 :=
  exp (subf (headS q h k) (broadcastTo S512x2048 (headM q h k) broadcasts_S512x1_S512x2048))
/-- Their row sums. -/
def headL (q : FVec F S512x1024 .f32) (h : Fin 8) (k : Vec F S1x2048x1x128 .bf16) : FVec F S512x1 .f32 :=
  shapeCast S512x1 (multiReduction .add [1] S512 (headP q h k) 0x00000000#32 reduces_S512x2048_S512 (.inl rfl) rfl) shapeCasts_S512_S512x1
/-- The values weighted by them. -/
def headA (q : FVec F S512x1024 .f32) (h : Fin 8) (k v : Vec F S1x2048x1x128 .bf16) : FVec F S512x128 .f32 :=
  matmul dot_S512x2048_S2048x128_S512x128_1_0_0_1_n_n none (truncf .bf16 (headP q h k) bitsLt_bf16_f32)
    (shapeCast S2048x128 v shapeCasts_S1x2048x1x128_S2048x128) (constant S512x128 .f32 0x00000000#32)

/-- The local attention of head `h`, its results stored. -/
def headProg (q : FVec F S512x1024 .f32) (h : Fin 8) : Prog (BE F) PUnit := do
  let k : Vec F S1x2048x1x128 .bf16 ← Prog.lift (.load arg3 (Rect.unit (s := S1x2048x8x128) ![0, 0, h.val, 0] S1x2048x1x128.size (kv_inb h)).toLoadRect (View.loadsAt_vmem h_S1x2048x1x128))
  let v : Vec F S1x2048x1x128 .bf16 ← Prog.lift (.load arg4 (Rect.unit (s := S1x2048x8x128) ![0, 0, h.val, 0] S1x2048x1x128.size (kv_inb h)).toLoadRect (View.loadsAt_vmem h_S1x2048x1x128))
  let _ : Vec F S512x128 .f32 ← Prog.lift (.load arg6 (Rect.unit (s := S512x1024) ![0, 128 * h.val] S512x128.size (strip_inb h)).toLoadRect (View.loadsAt_vmem h_S512x128))
  Prog.lift (.store arg6 (Rect.unit (s := S512x1024) ![0, 128 * h.val] S512x128.size (strip_inb h)) (shapeCast S512x128 (headA q h k v) shapeCasts_S512x128_S512x128) Finset.univ (View.stores_vmem_bits_univ h_S512x128 rfl) (.inl rfl))
  let _ : Vec F S512x128 .bf16 ← Prog.lift (.load arg7 (Rect.unit (s := S512x1024) ![0, 128 * h.val] S512x128.size (strip_inb h)).toLoadRect (View.loadsAt_vmem h_S512x128))
  Prog.lift (.store arg7 (Rect.unit (s := S512x1024) ![0, 128 * h.val] S512x128.size (strip_inb h)) (shapeCast S512x128 (truncf .bf16 (headA q h k v) bitsLt_bf16_f32) shapeCasts_S512x128_S512x128) Finset.univ (View.stores_vmem h_S512x128 (harg7.storeExact_slice rfl _ (strip_packed h)) (fun _ => rfl)) (.inl rfl))
  let _ : Vec F S1x512x1 .f32 ← Prog.lift (.load arg8 (Rect.unit (s := S2x512x8) ![(0 : Fin 2).val, 0, h.val] S1x512x1.size (plane_inb 0 h)).toLoadRect (View.loadsAt_vmem h_S1x512x1))
  Prog.lift (.store arg8 (Rect.unit (s := S2x512x8) ![(0 : Fin 2).val, 0, h.val] S1x512x1.size (plane_inb 0 h)) (shapeCast S1x512x1 (headM q h k) shapeCasts_S512x1_S1x512x1) Finset.univ (View.stores_vmem_bits_univ h_S1x512x1 rfl) (.inl rfl))
  let _ : Vec F S1x512x1 .f32 ← Prog.lift (.load arg8 (Rect.unit (s := S2x512x8) ![(1 : Fin 2).val, 0, h.val] S1x512x1.size (plane_inb 1 h)).toLoadRect (View.loadsAt_vmem h_S1x512x1))
  Prog.lift (.store arg8 (Rect.unit (s := S2x512x8) ![(1 : Fin 2).val, 0, h.val] S1x512x1.size (plane_inb 1 h)) (shapeCast S1x512x1 (headL q h k) shapeCasts_S512x1_S1x512x1) Finset.univ (View.stores_vmem_bits_univ h_S1x512x1 rfl) (.inl rfl))

/-- The local attention of the listed heads in turn. -/
def headsProg (q : FVec F S512x1024 .f32) : List (Fin 8) → Prog (BE F) PUnit
  | [] => pure ⟨⟩
  | h :: hs => headProg arg3 arg4 arg6 arg7 harg7 arg8 q h >>= fun _ => headsProg q hs

/-- The heads. -/
abbrev heads : List (Fin 8) := [0, 1, 2, 3, 4, 5, 6, 7]

/-! ## One round of the reduce-scatter -/

theorem sem_inb : ∀ t : Fin 5, ∀ a, (![t.val] : Fin 1 → ℕ) a + S1.size a ≤ S5.size a := by decide

/-- Semaphore `t` of an array of five. -/
def semAt (m : DmaSems sig S5) (t : Fin 5) : DmaSem sig :=
  ((m.slice (Rect.unit (s := S5) ![t.val] S1.size (sem_inb t))).squeeze S_ squeezes_S1_S_).sem

/-- Where a round reads and writes, as the body computes it: the partner each transfer addresses, the rows sent and
kept, by buffer and head, and the landing rows. -/
structure RoundAt (n : ℕ) where
  /-- the device the accumulator's rows go to -/
  dA : Dev nD
  /-- the device the statistics' rows go to -/
  dS : Dev nD
  /-- the accumulator's rows sent -/
  oA : Fin 2 → ℕ
  /-- the statistics' rows sent -/
  oS : Fin 3 → ℕ
  /-- the kept rows of the maxima -/
  o0 : Fin 3 → ℕ
  /-- the kept rows of the sums -/
  o1 : Fin 3 → ℕ
  /-- the kept rows of each head's strip -/
  oH : Fin 8 → Fin 2 → ℕ
  /-- the first landing row -/
  rx : ℕ
  hn : 0 < n
  iA : ∀ a, oA a + (SR n).size a ≤ S512x1024.size a
  wA : (Rect.unit (s := S512x1024) oA (SR n).size iA).WholeWords (EltTy.packing .bf16)
  iS : ∀ a, oS a + (ST n).size a ≤ S2x512x8.size a
  i0 : ∀ a, o0 a + (SP n).size a ≤ S2x512x8.size a
  i1 : ∀ a, o1 a + (SP n).size a ≤ S2x512x8.size a
  iH : ∀ h a, oH h a + (SH n).size a ≤ S512x1024.size a
  jA : ∀ a, (![rx, 0] : Fin 2 → ℕ) a + (SR n).size a ≤ S512x1024.size a
  jw : (Rect.unit (s := S512x1024) ![rx, 0] (SR n).size jA).WholeWords (EltTy.packing .bf16)
  jS : ∀ a, (![0, rx, 0] : Fin 3 → ℕ) a + (ST n).size a ≤ S2x512x8.size a
  j0 : ∀ a, (![0, rx, 0] : Fin 3 → ℕ) a + (SP n).size a ≤ S2x512x8.size a
  j1 : ∀ a, (![1, rx, 0] : Fin 3 → ℕ) a + (SP n).size a ≤ S2x512x8.size a
  jH : ∀ h : Fin 8, ∀ a, (![rx, 128 * h.val] : Fin 2 → ℕ) a + (SH n).size a ≤ S512x1024.size a
  pP : 0 < (SP n).numel
  pH : 0 < (SH n).numel
  c1 : (SP n).ShapeCasts (SQ n)
  c2 : (SQ n).ShapeCasts (SP n)
  c3 : (SH n).ShapeCasts (SH n)
  sl : ∀ h : Fin 8, (SQ n).Slices ![0, h.val] (SC n)
  bc : (SC n).Broadcasts (SH n)

/-- The elements of a round of `n` rows and the packing its mirrored rows are stored at. -/
structure RoundTx {n : ℕ} (R : RoundAt n) : Prop where
  pk : ∀ h, (Rect.unit (s := S512x1024) (R.oH h) (SH n).size (R.iH h)).PackedRows (EltTy.packing .bf16)

variable {n : ℕ} (R : RoundAt n)

/-- The merged maxima. -/
def mM (m0 mR : Vec F (SP n) .f32) : FVec F (SQ n) .f32 := maximumf (shapeCast (SQ n) m0 R.c1) (shapeCast (SQ n) mR R.c1)
/-- The factor that rebases the own sums. -/
def mF (m0 mR : Vec F (SP n) .f32) : FVec F (SQ n) .f32 := exp (subf (shapeCast (SQ n) m0 R.c1) (mM R m0 mR))
/-- The factor that rebases the received sums. -/
def mG (m0 mR : Vec F (SP n) .f32) : FVec F (SQ n) .f32 := exp (subf (shapeCast (SQ n) mR R.c1) (mM R m0 mR))
/-- The merged sums. -/
def mL (m0 l0 mR lR : Vec F (SP n) .f32) : FVec F (SQ n) .f32 :=
  addf (mulf (shapeCast (SQ n) l0 R.c1) (mF R m0 mR)) (mulf (shapeCast (SQ n) lR R.c1) (mG R m0 mR))
/-- The merged accumulator of one head. -/
def mA (m0 mR : Vec F (SP n) .f32) (h : Fin 8) (a : Vec F (SH n) .f32) (b : Vec F (SH n) .bf16) : FVec F (SH n) .f32 :=
  addf (mulf a (broadcastTo (SH n) (extractStridedSlice (SC n) ![0, h.val] (mF R m0 mR) (R.sl h)) R.bc))
    (mulf (extf .f32 b bitsLt_bf16_f32) (broadcastTo (SH n) (extractStridedSlice (SC n) ![0, h.val] (mG R m0 mR) (R.sl h)) R.bc))

/-- One head's accumulator merged. -/
def mergeProg (m0 mR : Vec F (SP n) .f32) (h : Fin 8) : Prog (BE F) (FVec F (SH n) .f32) := do
  let a : Vec F (SH n) .f32 ← Prog.lift (.load arg6 (Rect.unit (s := S512x1024) (R.oH h) (SH n).size (R.iH h)).toLoadRect (View.loadsAt_vmem R.pH))
  let b : Vec F (SH n) .bf16 ← Prog.lift (.load arg9 (Rect.unit (s := S512x1024) ![R.rx, 128 * h.val] (SH n).size (R.jH h)).toLoadRect (View.loadsAt_vmem R.pH))
  let _ : Vec F (SH n) .f32 ← Prog.lift (.load arg6 (Rect.unit (s := S512x1024) (R.oH h) (SH n).size (R.iH h)).toLoadRect (View.loadsAt_vmem R.pH))
  Prog.lift (.store arg6 (Rect.unit (s := S512x1024) (R.oH h) (SH n).size (R.iH h)) (shapeCast (SH n) (mA R m0 mR h a b) R.c3) Finset.univ (View.stores_vmem_bits_univ R.pH rfl) (.inl rfl))
  pure (mA R m0 mR h a b)

/-- Its mirror for the next round's transfer stored. -/
def mirrorProg (X : RoundTx R) (h : Fin 8) (a : FVec F (SH n) .f32) : Prog (BE F) PUnit := do
  let _ : Vec F (SH n) .bf16 ← Prog.lift (.load arg7 (Rect.unit (s := S512x1024) (R.oH h) (SH n).size (R.iH h)).toLoadRect (View.loadsAt_vmem R.pH))
  Prog.lift (.store arg7 (Rect.unit (s := S512x1024) (R.oH h) (SH n).size (R.iH h)) (shapeCast (SH n) (truncf .bf16 a bitsLt_bf16_f32) R.c3) Finset.univ (View.stores_vmem R.pH (harg7.storeExact_slice rfl _ (X.pk h)) (fun _ => rfl)) (.inl rfl))

/-- The listed heads' accumulators merged and mirrored. -/
def mergesTx (X : RoundTx R) (m0 mR : Vec F (SP n) .f32) : List (Fin 8) → Prog (BE F) PUnit
  | [] => pure ⟨⟩
  | h :: hs => mergeProg arg6 arg9 R m0 mR h >>= fun a => mirrorProg arg7 harg7 R X h a >>= fun _ => mergesTx X m0 mR hs

/-- The listed heads' accumulators merged, with no mirror. -/
def merges (m0 mR : Vec F (SP n) .f32) : List (Fin 8) → Prog (BE F) PUnit
  | [] => pure ⟨⟩
  | h :: hs => mergeProg arg6 arg9 R m0 mR h >>= fun _ => merges m0 mR hs

/-- The rows of the accumulator sent in the round. -/
abbrev srcA : Memref sig .tc .vmem (SR n) .bf16 := arg7.slice (Rect.unit (s := S512x1024) R.oA (SR n).size R.iA) (fun _ => rfl)
/-- Where the partner's land. -/
abbrev dstA : Memref sig .tc .vmem (SR n) .bf16 := arg9.slice (Rect.unit (s := S512x1024) ![R.rx, 0] (SR n).size R.jA) (fun _ => rfl)
/-- The rows of the statistics sent in the round. -/
abbrev srcS : Memref sig .tc .vmem (ST n) .f32 := arg8.slice (Rect.unit (s := S2x512x8) R.oS (ST n).size R.iS) (fun _ => rfl)
/-- Where the partner's land. -/
abbrev dstS : Memref sig .tc .vmem (ST n) .f32 := arg10.slice (Rect.unit (s := S2x512x8) ![0, R.rx, 0] (ST n).size R.jS) (fun _ => rfl)

/-- The round's exchange: both transfers issued, both sent, both received. -/
def exchProg (t : Fin 5) : Prog (BE F) PUnit := do
  Prog.lift (.enqueueDma (srcA arg7 R) (.remote (Dev.tc R.dA) (dstA arg9 R) (.dma (semAt arg12 t))) (.dma (semAt arg13 t)) (harg7.wordExact_slice rfl _ R.wA) (harg9.wordExact_slice rfl _ R.jw) ⟨⟨rfl, Or.inl rfl⟩, trivial⟩)
  Prog.lift (.enqueueDma (srcS arg8 R) (.remote (Dev.tc R.dS) (dstS arg10 R) (.dma (semAt arg14 t))) (.dma (semAt arg15 t)) (View.wordExact_bits rfl) (View.wordExact_bits rfl) ⟨⟨rfl, Or.inl rfl⟩, trivial⟩)
  Prog.lift (.waitDma2 (semAt arg12 t) (dstA arg9 R) (srcA arg7 R) (harg9.wordExact_slice rfl _ R.jw) (harg7.wordExact_slice rfl _ R.wA))
  Prog.lift (.waitDma2 (semAt arg13 t) (srcA arg7 R) (dstA arg9 R) (harg7.wordExact_slice rfl _ R.wA) (harg9.wordExact_slice rfl _ R.jw))
  Prog.lift (.waitDma2 (semAt arg14 t) (dstS arg10 R) (srcS arg8 R) (View.wordExact_bits rfl) (View.wordExact_bits rfl))
  Prog.lift (.waitDma2 (semAt arg15 t) (srcS arg8 R) (dstS arg10 R) (View.wordExact_bits rfl) (View.wordExact_bits rfl))

/-- The statistics read and merged; the own and the received maxima come back. -/
def statProg : Prog (BE F) (Vec F (SP n) .f32 × Vec F (SP n) .f32) := do
  let m0 : Vec F (SP n) .f32 ← Prog.lift (.load arg8 (Rect.unit (s := S2x512x8) R.o0 (SP n).size R.i0).toLoadRect (View.loadsAt_vmem R.pP))
  let l0 : Vec F (SP n) .f32 ← Prog.lift (.load arg8 (Rect.unit (s := S2x512x8) R.o1 (SP n).size R.i1).toLoadRect (View.loadsAt_vmem R.pP))
  let mR : Vec F (SP n) .f32 ← Prog.lift (.load arg10 (Rect.unit (s := S2x512x8) ![0, R.rx, 0] (SP n).size R.j0).toLoadRect (View.loadsAt_vmem R.pP))
  let lR : Vec F (SP n) .f32 ← Prog.lift (.load arg10 (Rect.unit (s := S2x512x8) ![1, R.rx, 0] (SP n).size R.j1).toLoadRect (View.loadsAt_vmem R.pP))
  let _ : Vec F (SP n) .f32 ← Prog.lift (.load arg8 (Rect.unit (s := S2x512x8) R.o0 (SP n).size R.i0).toLoadRect (View.loadsAt_vmem R.pP))
  Prog.lift (.store arg8 (Rect.unit (s := S2x512x8) R.o0 (SP n).size R.i0) (shapeCast (SP n) (mM R m0 mR) R.c2) Finset.univ (View.stores_vmem_bits_univ R.pP rfl) (.inl rfl))
  let _ : Vec F (SP n) .f32 ← Prog.lift (.load arg8 (Rect.unit (s := S2x512x8) R.o1 (SP n).size R.i1).toLoadRect (View.loadsAt_vmem R.pP))
  Prog.lift (.store arg8 (Rect.unit (s := S2x512x8) R.o1 (SP n).size R.i1) (shapeCast (SP n) (mL R m0 l0 mR lR) R.c2) Finset.univ (View.stores_vmem_bits_univ R.pP rfl) (.inl rfl))
  pure (m0, mR)

/-- A round whose merged rows are mirrored for the next. -/
def roundTx (X : RoundTx R) (t : Fin 5) : Prog (BE F) PUnit :=
  exchProg arg7 harg7 arg8 arg9 harg9 arg10 arg12 arg13 arg14 arg15 R t >>= fun _ =>
  statProg arg8 arg10 R >>= fun m => mergesTx arg6 arg7 harg7 arg9 R X m.1 m.2 heads

/-- The last round. -/
def roundLast (t : Fin 5) : Prog (BE F) PUnit :=
  exchProg arg7 harg7 arg8 arg9 harg9 arg10 arg12 arg13 arg14 arg15 R t >>= fun _ =>
  statProg arg8 arg10 R >>= fun m => merges arg6 arg9 R m.1 m.2 heads

/-! ## The rows of one device finished -/

/-- The accumulator divided by the sums, head by head, and projected. -/
def finPay (a : Vec F S16x1024 .f32) (l : Vec F S1x16x8 .f32) (wo : Vec F S1024x1024 .bf16) : FVec F S16x1024 .bf16 :=
  k0_pay244 a (k0_pay236 l) (k0_pay237 a l) (k0_pay238 a l) (k0_pay239 a l) (k0_pay240 a l) (k0_pay241 a l) (k0_pay242 a) (k0_pay243 l) wo

/-- The device's own rows of the result. -/
def finProg (d0 : Dev nD) : Prog (BE F) PUnit := do
  let a : Vec F S16x1024 .f32 ← Prog.lift (.load arg6 (Rect.unit (s := S512x1024) (k0_off61 d0) S16x1024.size (k0_off61_inb d0)).toLoadRect (View.loadsAt_vmem h_S16x1024))
  let l : Vec F S1x16x8 .f32 ← Prog.lift (.load arg8 (Rect.unit (s := S2x512x8) (k0_off52 d0) S1x16x8.size (k0_off52_inb d0)).toLoadRect (View.loadsAt_vmem h_S1x16x8))
  let wo : Vec F S1024x1024 .bf16 ← Prog.lift (.load arg2 (Rect.unit (s := S1024x1024) ![0, 0] S1024x1024.size inb_S1024x1024_S1024x1024_0_0).toLoadRect (View.loadsAt_vmem h_S1024x1024))
  let _ : Vec F S16x1024 .bf16 ← Prog.lift (.load arg11 (Rect.unit (s := S512x1024) (k0_off61 d0) S16x1024.size (k0_off61_inb d0)).toLoadRect (View.loadsAt_vmem h_S16x1024))
  Prog.lift (.store arg11 (Rect.unit (s := S512x1024) (k0_off61 d0) S16x1024.size (k0_off61_inb d0)) (finPay a l wo) Finset.univ (View.stores_vmem h_S16x1024 (harg11.storeExact_slice rfl _ (k0_off61_packedbf16 d0)) (fun _ => rfl)) (.inl rfl))

/-! ## One round of the all-gather -/

/-- Where an all-gather round reads and writes: the partner and the rows, the same on both devices. -/
structure GatherAt (n : ℕ) where
  /-- the device the rows go to -/
  d : Dev nD
  /-- the rows -/
  o : Fin 2 → ℕ
  hn : 0 < n
  i : ∀ a, o a + (SR n).size a ≤ S512x1024.size a
  w : (Rect.unit (s := S512x1024) o (SR n).size i).WholeWords (EltTy.packing .bf16)

/-- The rows an all-gather round moves. -/
abbrev agM {n : ℕ} (G : GatherAt n) : Memref sig .tc .vmem (SR n) .bf16 := arg11.slice (Rect.unit (s := S512x1024) G.o (SR n).size G.i) (fun _ => rfl)

/-- An all-gather round. -/
def agProg {n : ℕ} (G : GatherAt n) (t : Fin 5) : Prog (BE F) PUnit := do
  Prog.lift (.enqueueDma (agM arg11 G) (.remote (Dev.tc G.d) (agM arg11 G) (.dma (semAt arg16 t))) (.dma (semAt arg17 t)) (harg11.wordExact_slice rfl _ G.w) (harg11.wordExact_slice rfl _ G.w) ⟨⟨rfl, Or.inl rfl⟩, trivial⟩)
  Prog.lift (.waitDma2 (semAt arg16 t) (agM arg11 G) (agM arg11 G) (harg11.wordExact_slice rfl _ G.w) (harg11.wordExact_slice rfl _ G.w))
  Prog.lift (.waitDma2 (semAt arg17 t) (agM arg11 G) (agM arg11 G) (harg11.wordExact_slice rfl _ G.w) (harg11.wordExact_slice rfl _ G.w))

/-! ## The barriers and the output -/

/-- One unit to each of the listed devices. -/
def sigProg (s : Sem sig) : List (Dev nD) → Prog (BE F) PUnit
  | [] => pure ⟨⟩
  | d :: ds => semSignalWord d s 1#32 >>= fun _ => sigProg s ds

/-- The gathered rows written out. -/
def outProg : Prog (BE F) PUnit := do
  let o : Vec F S512x1024 .bf16 ← Prog.lift (.load arg11 (Rect.unit (s := S512x1024) ![0, 0] S512x1024.size inb_S512x1024_S512x1024_0_0).toLoadRect (View.loadsAt_vmem h_S512x1024))
  let _ : Vec F S1x512x1024 .f32 ← Prog.lift (.load arg5 (Rect.unit (s := S1x512x1024) ![0, 0, 0] S1x512x1024.size inb_S1x512x1024_S1x512x1024_0_0_0).toLoadRect (View.loadsAt_vmem h_S1x512x1024))
  Prog.lift (.store arg5 (Rect.unit (s := S1x512x1024) ![0, 0, 0] S1x512x1024.size inb_S1x512x1024_S1x512x1024_0_0_0) (k0_pay245 o) Finset.univ (View.stores_vmem_bits_univ h_S1x512x1024 rfl) (.inl rfl))

/-- The scaled query. -/
def qOf (x : Vec F S1x512x1024 .bf16) (wq : Vec F S1024x1024 .bf16) : FVec F S512x1024 .f32 :=
  k0_pay3 (k0_pay1 x) (k0_pay2 wq) (constant S512x1024 .f32 0x00000000#32)

/-- The query read and scaled. -/
def qProg : Prog (BE F) (FVec F S512x1024 .f32) := do
  let x : Vec F S1x512x1024 .bf16 ← Prog.lift (.load arg0 (Rect.unit (s := S1x512x1024) ![0, 0, 0] S1x512x1024.size inb_S1x512x1024_S1x512x1024_0_0_0).toLoadRect (View.loadsAt_vmem h_S1x512x1024))
  let wq : Vec F S1024x1024 .bf16 ← Prog.lift (.load arg1 (Rect.unit (s := S1024x1024) ![0, 0] S1024x1024.size inb_S1024x1024_S1024x1024_0_0).toLoadRect (View.loadsAt_vmem h_S1024x1024))
  pure (qOf x wq)

end Stages

/-! ## Where each round reads and writes -/

/-- A fact of each of eight. -/
theorem forall8 {p : Fin 8 → Prop} (h0 : p 0) (h1 : p 1) (h2 : p 2) (h3 : p 3) (h4 : p 4) (h5 : p 5) (h6 : p 6) (h7 : p 7) :
    ∀ h, p h
  | 0 => h0 | 1 => h1 | 2 => h2 | 3 => h3 | 4 => h4 | 5 => h5 | 6 => h6 | 7 => h7

/-- Round 0 of the reduce-scatter on device `d0`. -/
def R0 (d0 : Dev nD) : RoundAt 256 where
  dA := ⟨k0_dev6 d0, k0_dev6_lt d0⟩
  dS := ⟨k0_dev7 d0, k0_dev7_lt d0⟩
  oA := k0_off1 d0
  oS := k0_off2 d0
  o0 := k0_off3 d0
  o1 := k0_off4 d0
  oH := ![k0_off5 d0, k0_off6 d0, k0_off7 d0, k0_off8 d0, k0_off9 d0, k0_off10 d0, k0_off11 d0, k0_off12 d0]
  rx := 0
  hn := by decide
  iA := k0_off1_inb d0
  wA := k0_off1_wordsbf16 d0
  iS := k0_off2_inb d0
  i0 := k0_off3_inb d0
  i1 := k0_off4_inb d0
  iH := forall8 (k0_off5_inb d0) (k0_off6_inb d0) (k0_off7_inb d0) (k0_off8_inb d0) (k0_off9_inb d0) (k0_off10_inb d0) (k0_off11_inb d0) (k0_off12_inb d0)
  jA := by decide
  jw := by decide +kernel
  jS := by decide
  j0 := by decide
  j1 := by decide
  jH := by decide
  pP := by decide
  pH := by decide
  c1 := by decide
  c2 := by decide
  c3 := by decide
  sl := by decide
  bc := by decide

theorem X0 (d0 : Dev nD) : RoundTx (R0 d0) :=
  ⟨forall8 (k0_off5_packedbf16 d0) (k0_off6_packedbf16 d0) (k0_off7_packedbf16 d0) (k0_off8_packedbf16 d0) (k0_off9_packedbf16 d0) (k0_off10_packedbf16 d0) (k0_off11_packedbf16 d0) (k0_off12_packedbf16 d0)⟩

/-- Round 1 of the reduce-scatter on device `d0`. -/
def R1 (d0 : Dev nD) : RoundAt 128 where
  dA := ⟨k0_dev8 d0, k0_dev8_lt d0⟩
  dS := ⟨k0_dev9 d0, k0_dev9_lt d0⟩
  oA := k0_off13 d0
  oS := k0_off14 d0
  o0 := k0_off15 d0
  o1 := k0_off16 d0
  oH := ![k0_off17 d0, k0_off18 d0, k0_off19 d0, k0_off20 d0, k0_off21 d0, k0_off22 d0, k0_off23 d0, k0_off24 d0]
  rx := 256
  hn := by decide
  iA := k0_off13_inb d0
  wA := k0_off13_wordsbf16 d0
  iS := k0_off14_inb d0
  i0 := k0_off15_inb d0
  i1 := k0_off16_inb d0
  iH := forall8 (k0_off17_inb d0) (k0_off18_inb d0) (k0_off19_inb d0) (k0_off20_inb d0) (k0_off21_inb d0) (k0_off22_inb d0) (k0_off23_inb d0) (k0_off24_inb d0)
  jA := by decide
  jw := by decide +kernel
  jS := by decide
  j0 := by decide
  j1 := by decide
  jH := by decide
  pP := by decide
  pH := by decide
  c1 := by decide
  c2 := by decide
  c3 := by decide
  sl := by decide
  bc := by decide

theorem X1 (d0 : Dev nD) : RoundTx (R1 d0) :=
  ⟨forall8 (k0_off17_packedbf16 d0) (k0_off18_packedbf16 d0) (k0_off19_packedbf16 d0) (k0_off20_packedbf16 d0) (k0_off21_packedbf16 d0) (k0_off22_packedbf16 d0) (k0_off23_packedbf16 d0) (k0_off24_packedbf16 d0)⟩

/-- Round 2 of the reduce-scatter on device `d0`. -/
def R2 (d0 : Dev nD) : RoundAt 64 where
  dA := ⟨k0_dev10 d0, k0_dev10_lt d0⟩
  dS := ⟨k0_dev11 d0, k0_dev11_lt d0⟩
  oA := k0_off25 d0
  oS := k0_off26 d0
  o0 := k0_off27 d0
  o1 := k0_off28 d0
  oH := ![k0_off29 d0, k0_off30 d0, k0_off31 d0, k0_off32 d0, k0_off33 d0, k0_off34 d0, k0_off35 d0, k0_off36 d0]
  rx := 384
  hn := by decide
  iA := k0_off25_inb d0
  wA := k0_off25_wordsbf16 d0
  iS := k0_off26_inb d0
  i0 := k0_off27_inb d0
  i1 := k0_off28_inb d0
  iH := forall8 (k0_off29_inb d0) (k0_off30_inb d0) (k0_off31_inb d0) (k0_off32_inb d0) (k0_off33_inb d0) (k0_off34_inb d0) (k0_off35_inb d0) (k0_off36_inb d0)
  jA := by decide
  jw := by decide +kernel
  jS := by decide
  j0 := by decide
  j1 := by decide
  jH := by decide
  pP := by decide
  pH := by decide
  c1 := by decide
  c2 := by decide
  c3 := by decide
  sl := by decide
  bc := by decide

theorem X2 (d0 : Dev nD) : RoundTx (R2 d0) :=
  ⟨forall8 (k0_off29_packedbf16 d0) (k0_off30_packedbf16 d0) (k0_off31_packedbf16 d0) (k0_off32_packedbf16 d0) (k0_off33_packedbf16 d0) (k0_off34_packedbf16 d0) (k0_off35_packedbf16 d0) (k0_off36_packedbf16 d0)⟩

/-- Round 3 of the reduce-scatter on device `d0`. -/
def R3 (d0 : Dev nD) : RoundAt 32 where
  dA := ⟨k0_dev12 d0, k0_dev12_lt d0⟩
  dS := ⟨k0_dev13 d0, k0_dev13_lt d0⟩
  oA := k0_off37 d0
  oS := k0_off38 d0
  o0 := k0_off39 d0
  o1 := k0_off40 d0
  oH := ![k0_off41 d0, k0_off42 d0, k0_off43 d0, k0_off44 d0, k0_off45 d0, k0_off46 d0, k0_off47 d0, k0_off48 d0]
  rx := 448
  hn := by decide
  iA := k0_off37_inb d0
  wA := k0_off37_wordsbf16 d0
  iS := k0_off38_inb d0
  i0 := k0_off39_inb d0
  i1 := k0_off40_inb d0
  iH := forall8 (k0_off41_inb d0) (k0_off42_inb d0) (k0_off43_inb d0) (k0_off44_inb d0) (k0_off45_inb d0) (k0_off46_inb d0) (k0_off47_inb d0) (k0_off48_inb d0)
  jA := by decide
  jw := by decide +kernel
  jS := by decide
  j0 := by decide
  j1 := by decide
  jH := by decide
  pP := by decide
  pH := by decide
  c1 := by decide
  c2 := by decide
  c3 := by decide
  sl := by decide
  bc := by decide

theorem X3 (d0 : Dev nD) : RoundTx (R3 d0) :=
  ⟨forall8 (k0_off41_packedbf16 d0) (k0_off42_packedbf16 d0) (k0_off43_packedbf16 d0) (k0_off44_packedbf16 d0) (k0_off45_packedbf16 d0) (k0_off46_packedbf16 d0) (k0_off47_packedbf16 d0) (k0_off48_packedbf16 d0)⟩

/-- Round 4 of the reduce-scatter on device `d0`. -/
def R4 (d0 : Dev nD) : RoundAt 16 where
  dA := ⟨k0_dev14 d0, k0_dev14_lt d0⟩
  dS := ⟨k0_dev15 d0, k0_dev15_lt d0⟩
  oA := k0_off49 d0
  oS := k0_off50 d0
  o0 := k0_off51 d0
  o1 := k0_off52 d0
  oH := ![k0_off53 d0, k0_off54 d0, k0_off55 d0, k0_off56 d0, k0_off57 d0, k0_off58 d0, k0_off59 d0, k0_off60 d0]
  rx := 480
  hn := by decide
  iA := k0_off49_inb d0
  wA := k0_off49_wordsbf16 d0
  iS := k0_off50_inb d0
  i0 := k0_off51_inb d0
  i1 := k0_off52_inb d0
  iH := forall8 (k0_off53_inb d0) (k0_off54_inb d0) (k0_off55_inb d0) (k0_off56_inb d0) (k0_off57_inb d0) (k0_off58_inb d0) (k0_off59_inb d0) (k0_off60_inb d0)
  jA := by decide
  jw := by decide +kernel
  jS := by decide
  j0 := by decide
  j1 := by decide
  jH := by decide
  pP := by decide
  pH := by decide
  c1 := by decide
  c2 := by decide
  c3 := by decide
  sl := by decide
  bc := by decide

/-- Round 0 of the all-gather on device `d0`. -/
def G0 (d0 : Dev nD) : GatherAt 16 where
  d := ⟨k0_dev16 d0, k0_dev16_lt d0⟩
  o := k0_off62 d0
  hn := by decide
  i := k0_off62_inb d0
  w := k0_off62_wordsbf16 d0

/-- Round 1 of the all-gather on device `d0`. -/
def G1 (d0 : Dev nD) : GatherAt 32 where
  d := ⟨k0_dev17 d0, k0_dev17_lt d0⟩
  o := k0_off63 d0
  hn := by decide
  i := k0_off63_inb d0
  w := k0_off63_wordsbf16 d0

/-- Round 2 of the all-gather on device `d0`. -/
def G2 (d0 : Dev nD) : GatherAt 64 where
  d := ⟨k0_dev18 d0, k0_dev18_lt d0⟩
  o := k0_off64 d0
  hn := by decide
  i := k0_off64_inb d0
  w := k0_off64_wordsbf16 d0

/-- Round 3 of the all-gather on device `d0`. -/
def G3 (d0 : Dev nD) : GatherAt 128 where
  d := ⟨k0_dev19 d0, k0_dev19_lt d0⟩
  o := k0_off65 d0
  hn := by decide
  i := k0_off65_inb d0
  w := k0_off65_wordsbf16 d0

/-- Round 4 of the all-gather on device `d0`. -/
def G4 (d0 : Dev nD) : GatherAt 256 where
  d := ⟨k0_dev20 d0, k0_dev20_lt d0⟩
  o := k0_off66 d0
  hn := by decide
  i := k0_off66_inb d0
  w := k0_off66_wordsbf16 d0

/-- The devices the opening barrier signals. -/
def barDevs (d0 : Dev nD) : List (Dev nD) :=
  [⟨k0_dev1 d0, k0_dev1_lt d0⟩, ⟨k0_dev2 d0, k0_dev2_lt d0⟩, ⟨k0_dev3 d0, k0_dev3_lt d0⟩, ⟨k0_dev4 d0, k0_dev4_lt d0⟩, ⟨k0_dev5 d0, k0_dev5_lt d0⟩]
/-- The devices the closing barrier signals. -/
def endDevs (d0 : Dev nD) : List (Dev nD) :=
  [⟨k0_dev21 d0, k0_dev21_lt d0⟩, ⟨k0_dev22 d0, k0_dev22_lt d0⟩, ⟨k0_dev23 d0, k0_dev23_lt d0⟩, ⟨k0_dev24 d0, k0_dev24_lt d0⟩, ⟨k0_dev25 d0, k0_dev25_lt d0⟩]

section Body

variable (arg0 : Memref sig .tc .vmem S1x512x1024 .bf16) (harg0 : arg0.IsWhole) (arg1 : Memref sig .tc .vmem S1024x1024 .bf16) (harg1 : arg1.IsWhole) (arg2 : Memref sig .tc .vmem S1024x1024 .bf16) (harg2 : arg2.IsWhole) (arg3 : Memref sig .tc .vmem S1x2048x8x128 .bf16) (harg3 : arg3.IsWhole) (arg4 : Memref sig .tc .vmem S1x2048x8x128 .bf16) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S2x512x8 .f32) (harg8 : arg8.IsWhole) (arg9 : Memref sig .tc .vmem S512x1024 .bf16) (harg9 : arg9.IsWhole) (arg10 : Memref sig .tc .vmem S2x512x8 .f32) (harg10 : arg10.IsWhole) (arg11 : Memref sig .tc .vmem S512x1024 .bf16) (harg11 : arg11.IsWhole) (arg12 : DmaSems sig S5) (arg13 : DmaSems sig S5) (arg14 : DmaSems sig S5) (arg15 : DmaSems sig S5) (arg16 : DmaSems sig S5) (arg17 : DmaSems sig S5) (v1530_r0 : Sems sig S_)

/-- The body as its stages. -/
def body : Prog (BE F) PUnit := do
  let d0 : Dev nD ← Prog.lift .deviceId
  sigProg (sig.barrier 0 rfl) (barDevs d0)
  semWaitWord (sig.barrier 0 rfl) 5#32
  let q ← qProg arg0 arg1
  headsProg arg3 arg4 arg6 arg7 harg7 arg8 q heads
  roundTx arg6 arg7 harg7 arg8 arg9 harg9 arg10 arg12 arg13 arg14 arg15 (R0 d0) (X0 d0) 0
  roundTx arg6 arg7 harg7 arg8 arg9 harg9 arg10 arg12 arg13 arg14 arg15 (R1 d0) (X1 d0) 1
  roundTx arg6 arg7 harg7 arg8 arg9 harg9 arg10 arg12 arg13 arg14 arg15 (R2 d0) (X2 d0) 2
  roundTx arg6 arg7 harg7 arg8 arg9 harg9 arg10 arg12 arg13 arg14 arg15 (R3 d0) (X3 d0) 3
  roundLast arg6 arg7 harg7 arg8 arg9 harg9 arg10 arg12 arg13 arg14 arg15 (R4 d0) 4
  finProg arg2 arg6 arg8 arg11 harg11 d0
  agProg arg11 harg11 arg16 arg17 (G0 d0) 0
  agProg arg11 harg11 arg16 arg17 (G1 d0) 1
  agProg arg11 harg11 arg16 arg17 (G2 d0) 2
  agProg arg11 harg11 arg16 arg17 (G3 d0) 3
  agProg arg11 harg11 arg16 arg17 (G4 d0) 4
  outProg arg5 arg11
  sigProg v1530_r0.sem (endDevs d0)
  semWaitWord v1530_r0.sem 5#32

set_option maxRecDepth 65536 in
set_option maxHeartbeats 0 in
/-- The printed body is its stages in order, by unfolding. -/
theorem body_eq :
    cc0_body (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 v1530_r0
      = body arg0 arg1 arg2 arg3 arg4 arg5 arg6 arg7 harg7 arg8 arg9 harg9 arg10 arg11 harg11 arg12 arg13 arg14 arg15 arg16 arg17 v1530_r0 := by
  chain_rfl

end Body

end Cert.KernelIdeal.K

end
-- ==== Proof.KernelIdeal.Base.lean ====
/-
  Loads and stores of a unit-stride rectangle of a whole buffer, element by element; an update of a buffer done strip by
  strip; the program logic at this kernel.
-/
module

public import proofs.«01_k».proof.Proof.KernelIdeal.Prog
public import proofs.«01_k».proof.Proof.Gen.KernelIdeal.Launch
public import Idealize.ShloMosaic.Lib.WritesUnit
public import Idealize.ShloMosaic.Lib.Pipeline.Launch
public import Idealize.ShloMosaic.Lib.Pipeline.Kit
public import Idealize.ShloMosaic.Lib.Tactic

@[expose] public section

noncomputable section

namespace Cert.KernelIdeal.K

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The ghost state: the launch's cells and the kernel's own, a cell's payments told apart by which partner pays. -/
abbrev UB : Type := URounds (GSem nD τ sig) (Fin 5)
abbrev UU : Type := UR sig nD τ × UB

local notation "𝕄" => MT nD τ sig Unit (Elt F) ℕ UU ℕ

/-- No loop variants: the body has no loops. -/
abbrev 𝒱₀ : Variants := Variants.none

/-- A program's weakest precondition on device `c`. -/
abbrev WP (c : Dev nD) {α : Type} (p : Prog (BE F) α) (Q : α → sProp 𝕄) : sProp 𝕄 :=
  wp frame (wpE (defs₀ (F := F)) 𝒱₀ (c : Thread nD τ) none) Set.univ p Q

/-- Device `c` holds the elements `S` of its buffer `b`, at contents `f`. -/
abbrev pts (c : Dev nD) (b : Ref sig .tc) (S : Finset b.ty.Idx) (f : b.ty.Contents (Elt F)) : sProp 𝕄 :=
  ((c : Thread nD τ).loc b) ↦[S]{fullShare} f

/-- A load of a rectangle of a whole buffer, the elements it reads being held. -/
theorem wp_ld (c : Dev nD) {cs : CoreSpace} (i : Fin (sig.nNear .tc cs)) (hκ : sig.names .tc cs i = true) {r : LoadRect (sig.tyNear .tc cs i).shape}
    {hl : (Memref.whole ⟨cs, i, hκ⟩ : Memref sig .tc _ _ _).view.LoadsAt r}
    {α : Type} {Q : α → sProp 𝕄} {k : (r.shape.Idx → Elt F (sig.tyNear .tc cs i).elt) → Prog (BE F) α}
    (S : Finset (sig.tyNear .tc cs i).Idx) (f : (sig.tyNear .tc cs i).Contents (Elt F)) (hS : ∀ x, r.idx x ∈ S) :
    (pts c ⟨cs, i, hκ⟩ S f)
      ⊢ iprop(((pts c ⟨cs, i, hκ⟩ S f) -∗ WP c (k fun x => f (r.idx x)) Q)
          -∗ WP c (.op (.load (Memref.whole ⟨cs, i, hκ⟩) r hl) k) Q) :=
  wp_load 𝒱₀ (c : Thread nD τ) none Set.univ (m := Memref.whole ⟨cs, i, hκ⟩) (hl := hl) (S := S) (f := f) fun y hy => by
    obtain ⟨z, hz, rfl⟩ := Finset.mem_map.mp hy
    obtain ⟨x, rfl⟩ := r.exists_idx_of_mem hz
    exact hS x

/-- A store of a rectangle of a whole buffer, as an update of the buffer's contents. -/
theorem wp_st (c : Dev nD) {cs : CoreSpace} (i : Fin (sig.nNear .tc cs)) (hκ : sig.names .tc cs i = true)
    {off size : Fin (sig.tyNear .tc cs i).shape.rank → ℕ} {inb : ∀ a, off a + size a ≤ (sig.tyNear .tc cs i).shape.size a}
    {w : (Rect.unit off size inb).shape.Idx → Elt F (sig.tyNear .tc cs i).elt}
    {hx : ((Memref.whole ⟨cs, i, hκ⟩ : Memref sig .tc _ _ _).access (Rect.unit off size inb)).Stores Finset.univ} {hm}
    {α : Type} {Q : α → sProp 𝕄} {k : PUnit → Prog (BE F) α}
    (f g : (sig.tyNear .tc cs i).Contents (Elt F))
    (hg : ∀ y : (sig.tyNear .tc cs i).shape.Idx, g y = if h : ∀ a, off a ≤ (y a).val ∧ (y a).val < off a + size a then
      w (Rect.unitLocal (s := (sig.tyNear .tc cs i).shape) (off := off) (size := size) y h) else f y) :
    (pts c ⟨cs, i, hκ⟩ Finset.univ f)
      ⊢ iprop(((pts c ⟨cs, i, hκ⟩ Finset.univ g) -∗ WP c (k ⟨⟩) Q)
          -∗ WP c (.op (.store (Memref.whole ⟨cs, i, hκ⟩) (Rect.unit off size inb) w Finset.univ hx hm) k) Q) := by
  have e : ((Memref.whole ⟨cs, i, hκ⟩ : Memref sig .tc _ _ _).access (Rect.unit off size inb)).write (Elt F) f w Finset.univ = g :=
    funext fun y => (View.read_writes_cons_unit (View.whole ⟨cs, i, hκ⟩) f inb w [] y rfl).trans (hg y).symm
  subst e
  exact wp_store 𝒱₀ (c : Thread nD τ) none Set.univ (m := Memref.whole ⟨cs, i, hκ⟩) (hx := hx) (S := Finset.univ) (f := f) (Finset.subset_univ _)

end Cert.KernelIdeal.K

end
-- ==== Proof.KernelIdeal.Contents.lean ====
/-
  What the buffers hold at each round, as functions of every device's inputs: the local attention of each head, then five
  rounds in which a device merges its partner's rows into the rows it keeps. The offsets and devices the body computes,
  in closed form.
-/
module

public import proofs.«01_k».proof.Proof.KernelIdeal.Prog
public import Idealize.ShloMosaic.Lib.ValueIdx
public import Idealize.ShloMosaic.Lib.Pipeline.Value

@[expose] public section

noncomputable section

namespace Cert.KernelIdeal.K

open Idealize.ShloMosaic Idealize.ShloMosaic.ValueIdx Idealize.SL.Sem
open Cert.KernelIdeal Cert.KernelIdeal.Gen

variable {F : FTy → Type} [FloatOps F] [Named F]

/-! ## An update done strip by strip -/

section Strips
variable {ι α : Type} (col : ι → ℕ) (R : ι → Prop) [DecidablePred R] (u : ι → α → α)

/-- The elements of strip `h` that satisfy `R` updated by `u`. -/
def stp (h : Fin 8) (f : ι → α) : ι → α := fun y => if R y ∧ col y = h.val then u y (f y) else f y

/-- The listed strips updated in turn. -/
def stps (hs : List (Fin 8)) (f : ι → α) : ι → α := hs.foldl (fun f h => stp col R u h f) f

/-- Strips updated in turn, none twice, are updated at once. -/
theorem stps_apply : ∀ (hs : List (Fin 8)) (f : ι → α) (y : ι), hs.Nodup →
    stps col R u hs f y = if R y ∧ ∃ h ∈ hs, col y = h.val then u y (f y) else f y
  | [], f, y, _ => by rw [if_neg (fun h => by obtain ⟨_, _, hm, _⟩ := h; cases hm)]; rfl
  | h :: hs, f, y, hd => by
    have ih := stps_apply hs (stp col R u h f) y (List.nodup_cons.mp hd).2
    have e : stps col R u (h :: hs) f y = stps col R u hs (stp col R u h f) y := rfl
    rw [e, ih]
    unfold stp
    by_cases h1 : R y ∧ col y = h.val
    · have hn : ¬ (R y ∧ ∃ h' ∈ hs, col y = h'.val) := fun ⟨_, h', hm, he⟩ =>
        (List.nodup_cons.mp hd).1 (by rwa [Fin.ext (h1.2.symm.trans he)])
      rw [if_neg hn, if_pos h1, if_pos ⟨h1.1, h, List.mem_cons_self, h1.2⟩]
    · rw [if_neg h1]
      by_cases h2 : R y ∧ ∃ h' ∈ hs, col y = h'.val
      · obtain ⟨hr, h', hm, he⟩ := h2
        rw [if_pos ⟨hr, h', hm, he⟩, if_pos ⟨hr, h', List.mem_cons_of_mem _ hm, he⟩]
      · rw [if_neg h2, if_neg]
        rintro ⟨hr, h', hm, he⟩
        rcases List.mem_cons.mp hm with rfl | hm
        · exact h1 ⟨hr, he⟩
        · exact h2 ⟨hr, h', hm, he⟩

/-- All eight strips updated. -/
theorem stps_heads (hcol : ∀ y, col y < 8) (f : ι → α) :
    stps col R u heads f = fun y => if R y then u y (f y) else f y := by
  funext y
  rw [stps_apply col R u heads f y (by decide)]
  have hm : ∃ h ∈ heads, col y = h.val := by
    refine ⟨⟨col y, hcol y⟩, ?_, rfl⟩
    generalize (⟨col y, hcol y⟩ : Fin 8) = h
    revert h; decide
  by_cases h : R y
  · rw [if_pos ⟨h, hm⟩, if_pos h]
  · rw [if_neg (fun h' => h h'.1), if_neg h]

end Strips

/-! ## Rounds, partners, rows -/

/-- The devices a round's halves are apart. -/
def pw (t : ℕ) : ℕ := 2 ^ (4 - t)
/-- The rows a device keeps in round `t`. -/
def half (t : ℕ) : ℕ := 16 * pw t
/-- The first row device `c` keeps in round `t`. -/
def keepB (t : ℕ) (c : Dev nD) : ℕ := c.val / pw t * half t
/-- The first row the partner's rows land at in round `t`. -/
def rxo (t : ℕ) : ℕ := 512 - 2 * half t
/-- Device `c`'s partner in round `t`. -/
def par (t : Fin 5) (c : Dev nD) : Dev nD :=
  ⟨(if c.val / pw t % 2 = 0 then c.val + pw t else c.val - pw t) % 32, Nat.mod_lt _ (by decide)⟩

theorem par_par : ∀ (t : Fin 5) (c : Dev nD), par t (par t c) = c := by decide +kernel
/-- A device and its partner keep rows next to each other. -/
theorem keep_le : ∀ (t : Fin 5) (c : Dev nD), keepB t c + half t ≤ 512 := by decide +kernel
theorem rx_le : ∀ t : Fin 5, rxo t + half t ≤ 496 := by decide

/-- Row `i` is among those device `c` keeps in round `t`. -/
abbrev Keeps (t : ℕ) (c : Dev nD) (i : ℕ) : Prop := keepB t c ≤ i ∧ i < keepB t c + half t

/-! ## The scalars of a merge -/

/-- The factor that rebases what stands at maximum `a` to the larger of `a` and `b`. -/
def fF (a b : F .f32) : F .f32 := FloatOps.exp (FloatOps.subf a (FloatOps.maximumf a b))
/-- The factor that rebases what stands at maximum `b`. -/
def fG (a b : F .f32) : F .f32 := FloatOps.exp (FloatOps.subf b (FloatOps.maximumf a b))
/-- Two sums merged. -/
def mrgL (m0 mR l0 lR : F .f32) : F .f32 := FloatOps.addf (FloatOps.mulf l0 (fF m0 mR)) (FloatOps.mulf lR (fG m0 mR))
/-- A received element of the accumulator merged into the own. -/
def mrgA (m0 mR a : F .f32) (b : F .bf16) : F .f32 :=
  FloatOps.addf (FloatOps.mulf a (fF m0 mR)) (FloatOps.mulf (FloatOps.extf .f32 bitsLt_bf16_f32 b) (fG m0 mR))
/-- An accumulator's element as sent. -/
def tr (a : F .f32) : F .bf16 := FloatOps.truncf .bf16 bitsLt_bf16_f32 a

/-! ## The contents -/

/-- Every device's inputs as its kernel reads them. -/
structure Inp (F : FTy → Type) [FloatOps F] where
  x : Dev nD → Vec F S1x512x1024 .bf16
  wq : Dev nD → Vec F S1024x1024 .bf16
  wo : Dev nD → Vec F S1024x1024 .bf16
  k : Dev nD → Vec F S1x2048x8x128 .bf16
  v : Dev nD → Vec F S1x2048x8x128 .bf16

/-- The head a column of the accumulators belongs to. -/
def hd (y : S512x1024.Idx) : Fin 8 := ⟨(y 1).val / 128, by have : (y 1).val < 1024 := (y 1).isLt; omega⟩
/-- Its position in its head's strip. -/
def inHd (y : S512x1024.Idx) : S512x128.Idx := ix2 (n0 := 512) (n1 := 128) (y 0) ⟨(y 1).val % 128, Nat.mod_lt _ (by decide)⟩
/-- The same position's maximum. -/
def mxAt (y : S2x512x8.Idx) : S2x512x8.Idx := ix3 (n0 := 2) (n1 := 512) (n2 := 8) 0 (y 1) (y 2)
/-- The maximum that goes with an element of the accumulators. -/
def mxOf (y : S512x1024.Idx) : S2x512x8.Idx := ix3 (n0 := 2) (n1 := 512) (n2 := 8) 0 (y 0) (hd y)

/-- Head `h` of the keys or the values. -/
def kvOf (k : Vec F S1x2048x8x128 .bf16) (h : Fin 8) : Vec F S1x2048x1x128 .bf16 :=
  fun x => k ((Rect.unit (s := S1x2048x8x128) ![0, 0, h.val, 0] S1x2048x1x128.size (kv_inb h)).toLoadRect.idx x)

/-- The local attention's accumulator. -/
def locA (q : FVec F S512x1024 .f32) (k v : Vec F S1x2048x8x128 .bf16) (y : S512x1024.Idx) : F .f32 :=
  headA q (hd y) (kvOf k (hd y)) (kvOf v (hd y)) (inHd y)
/-- The local attention's statistics: the maxima, then the sums. -/
def locS (q : FVec F S512x1024 .f32) (k : Vec F S1x2048x8x128 .bf16) (y : S2x512x8.Idx) : F .f32 :=
  if (y 0).val = 0 then headM q (y 2) (kvOf k (y 2)) (ix2 (n0 := 512) (n1 := 1) (y 1) 0)
  else headL q (y 2) (kvOf k (y 2)) (ix2 (n0 := 512) (n1 := 1) (y 1) 0)

/-- The accumulators' and the statistics' contents on every device. -/
abbrev Cont (F : FTy → Type) [FloatOps F] := (Dev nD → S512x1024.Idx → F .f32) × (Dev nD → S2x512x8.Idx → F .f32)

/-- The merge of device `p`'s accumulator into device `c`'s. -/
def updA (X : Cont F) (c p : Dev nD) (y : S512x1024.Idx) (a : F .f32) : F .f32 :=
  mrgA (X.2 c (mxOf y)) (X.2 p (mxOf y)) a (tr (X.1 p y))
/-- The merge of device `p`'s statistics into device `c`'s. -/
def updS (X : Cont F) (c p : Dev nD) (y : S2x512x8.Idx) : F .f32 :=
  if (y 0).val = 0 then FloatOps.maximumf (X.2 c y) (X.2 p y)
  else mrgL (X.2 c (mxAt y)) (X.2 p (mxAt y)) (X.2 c y) (X.2 p y)

/-- One round: every device merges its partner's rows into those it keeps. -/
def stepC (t : Fin 5) (X : Cont F) : Cont F :=
  (fun c y => if Keeps t c (y 0).val then updA X c (par t c) y (X.1 c y) else X.1 c y,
   fun c y => if Keeps t c (y 1).val then updS X c (par t c) y else X.2 c y)

/-- The contents before the first round. -/
def cont0 (I : Inp F) : Cont F :=
  (fun c => locA (qOf (I.x c) (I.wq c)) (I.k c) (I.v c), fun c => locS (qOf (I.x c) (I.wq c)) (I.k c))

/-- The contents before round `t`. -/
def cont (I : Inp F) : ℕ → Cont F
  | 0 => cont0 I
  | t + 1 => stepC (Fin.ofNat 5 t) (cont I t)

/-- The accumulator's rows as device `c` sends them. -/
def txOf (X : Cont F) (c : Dev nD) (y : S512x1024.Idx) : F .bf16 := tr (X.1 c y)

/-- A row of a buffer of 512 as an index. -/
def row (i : ℕ) : Fin 512 := ⟨i % 512, Nat.mod_lt _ (by decide)⟩
theorem row_of_lt {i : ℕ} (h : i < 512) : (row i).val = i := Nat.mod_eq_of_lt h

/-- What lands in device `c`'s receive buffer in round `t`. -/
def rxA (I : Inp F) (t : Fin 5) (c : Dev nD) (y : S512x1024.Idx) : F .bf16 :=
  txOf (cont I t) (par t c) (ix2 (n0 := 512) (n1 := 1024) (row (keepB t c + (y 0).val - rxo t)) (y 1))
/-- What lands in its receive buffer of the statistics. -/
def rxS (I : Inp F) (t : Fin 5) (c : Dev nD) (y : S2x512x8.Idx) : F .f32 :=
  (cont I t).2 (par t c) (ix3 (n0 := 2) (n1 := 512) (n2 := 8) (y 0) (row (keepB t c + (y 1).val - rxo t)) (y 2))

/-- The device that finishes row `i`. -/
def own (i : Fin 512) : Dev nD := ⟨i.val / 16, by have := i.isLt; show _ < 32; omega⟩

/-- The accumulator's rows device `c` finishes. -/
def finA (I : Inp F) (c : Dev nD) : Vec F S16x1024 .f32 :=
  fun x => (cont I 5).1 c (ix2 (n0 := 512) (n1 := 1024) (row (16 * c.val + (x 0).val)) (x 1))
/-- The sums of the rows device `c` finishes. -/
def finL (I : Inp F) (c : Dev nD) : Vec F S1x16x8 .f32 :=
  fun x => (cont I 5).2 c (ix3 (n0 := 2) (n1 := 512) (n2 := 8) 1 (row (16 * c.val + (x 1).val)) (x 2))

/-- The result's rows, each finished by its device. -/
def outG (I : Inp F) (y : S512x1024.Idx) : F .bf16 :=
  finPay (finA I (own (y 0))) (finL I (own (y 0))) (I.wo (own (y 0)))
    (ix2 (n0 := 16) (n1 := 1024) ⟨(y 0).val % 16, Nat.mod_lt _ (by decide)⟩ (y 1))

/-! ## The offsets and devices in closed form -/

/-- A round's offsets and devices in closed form. -/
structure RoundAt.At {n : ℕ} (R : RoundAt n) (t : Fin 5) (c : Dev nD) : Prop where
  n_eq : n = half t
  dA : R.dA = par t c
  dS : R.dS = par t c
  oA : R.oA = ![keepB t (par t c), 0]
  oS : R.oS = ![0, keepB t (par t c), 0]
  o0 : R.o0 = ![0, keepB t c, 0]
  o1 : R.o1 = ![1, keepB t c, 0]
  oH : ∀ h : Fin 8, R.oH h = ![keepB t c, 128 * h.val]
  rx : R.rx = rxo t

set_option maxRecDepth 100000 in
theorem at0 (c : Dev nD) : (R0 c).At 0 c := by
  constructor <;> revert c <;> decide +kernel
set_option maxRecDepth 100000 in
theorem at1 (c : Dev nD) : (R1 c).At 1 c := by
  constructor <;> revert c <;> decide +kernel
set_option maxRecDepth 100000 in
theorem at2 (c : Dev nD) : (R2 c).At 2 c := by
  constructor <;> revert c <;> decide +kernel
set_option maxRecDepth 100000 in
theorem at3 (c : Dev nD) : (R3 c).At 3 c := by
  constructor <;> revert c <;> decide +kernel
set_option maxRecDepth 100000 in
theorem at4 (c : Dev nD) : (R4 c).At 4 c := by
  constructor <;> revert c <;> decide +kernel

/-- Device `c`'s partner in round `t` of the all-gather: its partner in the reduce-scatter's round `4 - t`. -/
def gpar (t : Fin 5) (c : Dev nD) : Dev nD := par (Fin.rev t) c
/-- The first row of those device `c` holds before round `t` of the all-gather. -/
def gbase (t : ℕ) (c : Dev nD) : ℕ := c.val / 2 ^ t * (16 * 2 ^ t)

/-- An all-gather round's offsets and devices in closed form. -/
structure GatherAt.At {n : ℕ} (G : GatherAt n) (t : Fin 5) (c : Dev nD) : Prop where
  n_eq : n = 16 * 2 ^ t.val
  d : G.d = gpar t c
  o : G.o = ![gbase t c, 0]

theorem gat0 (c : Dev nD) : (G0 c).At 0 c := by
  constructor <;> revert c <;> decide +kernel
theorem gat1 (c : Dev nD) : (G1 c).At 1 c := by
  constructor <;> revert c <;> decide +kernel
theorem gat2 (c : Dev nD) : (G2 c).At 2 c := by
  constructor <;> revert c <;> decide +kernel
theorem gat3 (c : Dev nD) : (G3 c).At 3 c := by
  constructor <;> revert c <;> decide +kernel
theorem gat4 (c : Dev nD) : (G4 c).At 4 c := by
  constructor <;> revert c <;> decide +kernel

/-- The rows device `c` finishes, in closed form. -/
theorem fin_off61 (c : Dev nD) : k0_off61 c = ![16 * c.val, 0] := by revert c; decide +kernel
theorem fin_off52 (c : Dev nD) : k0_off52 c = ![1, 16 * c.val, 0] := by revert c; decide +kernel

/-- The devices both barriers signal: the five partners. -/
theorem barDevs_eq (c : Dev nD) : barDevs c = [gpar 0 c, gpar 1 c, gpar 2 c, gpar 3 c, gpar 4 c] := by
  revert c; decide +kernel
theorem endDevs_eq (c : Dev nD) : endDevs c = [gpar 0 c, gpar 1 c, gpar 2 c, gpar 3 c, gpar 4 c] := by
  revert c; decide +kernel

end Cert.KernelIdeal.K

end
-- ==== Proof.KernelIdeal.Stages.lean ====
/-
  The stages of the body that stay on the device, each as one entailment: what it needs, what it leaves, at any contents.
-/
module

public import proofs.«01_k».proof.Proof.KernelIdeal.Base
public import proofs.«01_k».proof.Proof.KernelIdeal.Contents

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Choices and indices -/

/-- A choice by one of two equivalent conditions. -/
theorem ite_eq_dite {p q : Prop} [Decidable p] [Decidable q] {α : Type} {w : p → α} {u b : α} (e : p ↔ q) (h : ∀ hp : p, w hp = u) :
    (if q then u else b) = if hp : p then w hp else b := by
  by_cases hp : p
  · rw [if_pos (e.mp hp), dif_pos hp, h hp]
  · rw [if_neg (fun hq => hp (e.mpr hq)), dif_neg hp]

/-- The strip an element of the accumulators lies in. -/
abbrev colA (y : S512x1024.Idx) : ℕ := (y 1).val / 128
/-- The head an element of the statistics belongs to. -/
abbrev colS (y : S2x512x8.Idx) : ℕ := (y 2).val

theorem colA_lt (y : S512x1024.Idx) : colA y < 8 := by have : (y 1).val < 1024 := (y 1).isLt; show (y 1).val / 128 < 8; omega
theorem colS_lt (y : S2x512x8.Idx) : colS y < 8 := (y 2).isLt

/-- Being in strip `h` of `n` rows from row `b`. -/
theorem strip_iff (b n : ℕ) (h : Fin 8) (y : S512x1024.Idx) :
    (∀ a : Fin 2, (![b, 128 * h.val] : Fin 2 → ℕ) a ≤ (y a).val ∧ (y a).val < (![b, 128 * h.val] : Fin 2 → ℕ) a + (SH n).size a)
      ↔ (b ≤ (y 0).val ∧ (y 0).val < b + n) ∧ colA y = h.val := by
  rw [Fin.forall_fin_two]
  show ((b ≤ (y 0).val ∧ (y 0).val < b + n) ∧ (128 * h.val ≤ (y 1).val ∧ (y 1).val < 128 * h.val + 128)) ↔ _
  unfold colA
  constructor <;> rintro ⟨h1, h2⟩ <;> refine ⟨h1, ?_⟩ <;> omega

/-- Being in plane `p`, rows `n` from row `b`, `w` heads from head `e`, of the statistics. -/
theorem plane_iff (p b e n w : ℕ) (y : S2x512x8.Idx) :
    (∀ a : Fin 3, (![p, b, e] : Fin 3 → ℕ) a ≤ (y a).val ∧ (y a).val < (![p, b, e] : Fin 3 → ℕ) a + (⟨3, ![1, n, w]⟩ : Shape).size a)
      ↔ (y 0).val = p ∧ (b ≤ (y 1).val ∧ (y 1).val < b + n) ∧ (e ≤ (y 2).val ∧ (y 2).val < e + w) := by
  rw [Fin.forall_fin_succ, Fin.forall_fin_two]
  show ((p ≤ (y 0).val ∧ (y 0).val < p + 1) ∧ (b ≤ (y 1).val ∧ (y 1).val < b + n) ∧ (e ≤ (y 2).val ∧ (y 2).val < e + w)) ↔ _
  constructor <;> rintro ⟨h1, h2, h3⟩ <;> refine ⟨?_, h2, h3⟩ <;> omega

/-! ## One head -/

/-- A head's product, as an element of the whole accumulator. -/
theorem locA_strip (q : FVec F S512x1024 .f32) (k v : Vec F S1x2048x8x128 .bf16) (h : Fin 8) (y : S512x1024.Idx)
    (hy : colA y = h.val) (x : S512x128.Idx) (h0 : (x 0).val = (y 0).val) (h1 : (x 1).val = (y 1).val - 128 * h.val) :
    headA q h (kvOf k h) (kvOf v h) x = locA q k v y := by
  have e : hd y = h := Fin.ext hy
  unfold locA; rw [e]
  refine congrArg _ (funext fun a => ?_)
  match a with
  | ⟨0, _⟩ => exact Fin.ext h0
  | ⟨1, _⟩ => exact Fin.ext (h1.trans (by
      show (y 1).val - 128 * h.val = (y 1).val % 128
      have : (y 1).val / 128 = h.val := hy
      omega))

/-- A head's row maxima, as elements of the statistics. -/
theorem locS_max (q : FVec F S512x1024 .f32) (k : Vec F S1x2048x8x128 .bf16) (h : Fin 8) (y : S2x512x8.Idx)
    (e0 : (y 0).val = 0) (e1 : colS y = h.val) (x : S512x1.Idx) (h0 : (x 0).val = (y 1).val) :
    headM q h (kvOf k h) x = locS q k y := by
  have e2 : y 2 = h := Fin.ext e1
  unfold locS; rw [if_pos e0, e2]
  refine congrArg _ (funext fun a => ?_)
  match a with
  | ⟨0, _⟩ => exact Fin.ext h0
  | ⟨1, _⟩ => exact Fin.ext (by have : (x 1).val < 1 := (x 1).isLt; show (x 1).val = 0; omega)

/-- A head's row sums, as elements of the statistics. -/
theorem locS_sum (q : FVec F S512x1024 .f32) (k : Vec F S1x2048x8x128 .bf16) (h : Fin 8) (y : S2x512x8.Idx)
    (e0 : (y 0).val = 1) (e1 : colS y = h.val) (x : S512x1.Idx) (h0 : (x 0).val = (y 1).val) :
    headL q h (kvOf k h) x = locS q k y := by
  have e2 : y 2 = h := Fin.ext e1
  unfold locS; rw [if_neg (by rw [e0]; decide), e2]
  refine congrArg _ (funext fun a => ?_)
  match a with
  | ⟨0, _⟩ => exact Fin.ext h0
  | ⟨1, _⟩ => exact Fin.ext (by have : (x 1).val < 1 := (x 1).isLt; show (x 1).val = 0; omega)

/-- A finished program. -/
theorem wp_done (c : Dev nD) {α : Type} (a : α) {Q : α → sProp 𝕄} : Q a ⊢ WP c (.ret a) Q := by
  unfold WP
  rw [wp_ret]
  iintro H
  imodintro
  iexact H

set_option maxHeartbeats 1600000 in
/-- The local attention of one head: its strip of the accumulator and of the mirror, its column of the statistics. -/
theorem wp_head (c : Dev nD) (q : FVec F S512x1024 .f32) (h : Fin 8) (k v : Vec F S1x2048x8x128 .bf16)
    (fA : S512x1024.Idx → F .f32) (fT : S512x1024.Idx → F .bf16) (fS : S2x512x8.Idx → F .f32) {Q : PUnit → sProp 𝕄} :
    iprop(pts c cc0_stg3_0 Finset.univ k ∗ pts c cc0_stg4_0 Finset.univ v
        ∗ pts c cc0_scratch0 Finset.univ fA ∗ pts c cc0_scratch1 Finset.univ fT ∗ pts c cc0_scratch2 Finset.univ fS)
      ⊢ iprop(((pts c cc0_stg3_0 Finset.univ k ∗ pts c cc0_stg4_0 Finset.univ v
            ∗ pts c cc0_scratch0 Finset.univ (stp colA (fun _ => True) (fun y _ => locA q k v y) h fA)
            ∗ pts c cc0_scratch1 Finset.univ (stp colA (fun _ => True) (fun y _ => tr (locA q k v y)) h fT)
            ∗ pts c cc0_scratch2 Finset.univ (stp colS (fun _ => True) (fun y _ => locS q k y) h fS)) -∗ Q ⟨⟩)
          -∗ WP c (headProg (Memref.whole cc0_stg3_0) (Memref.whole cc0_stg4_0) (Memref.whole cc0_scratch0) (Memref.whole cc0_scratch1)
                (Memref.isWhole_whole _) (Memref.whole cc0_scratch2) q h) Q) := by
  have hstrip : ∀ y : S512x1024.Idx, (∀ a : Fin 2, (![0, 128 * h.val] : Fin 2 → ℕ) a ≤ (y a).val ∧ (y a).val < (![0, 128 * h.val] : Fin 2 → ℕ) a + S512x128.size a)
      ↔ True ∧ colA y = h.val := fun y => (strip_iff 0 512 h y).trans (and_congr_left fun _ =>
        iff_true_intro ⟨Nat.zero_le _, by have : (y 0).val < 512 := (y 0).isLt; omega⟩)
  have hplane : ∀ (p : Fin 2) (y : S2x512x8.Idx), (∀ a : Fin 3, (![p.val, 0, h.val] : Fin 3 → ℕ) a ≤ (y a).val ∧ (y a).val < (![p.val, 0, h.val] : Fin 3 → ℕ) a + S1x512x1.size a)
      ↔ (y 0).val = p.val ∧ colS y = h.val := fun p y => (plane_iff p.val 0 h.val 512 1 y).trans (and_congr_right fun _ =>
        ⟨fun h' => by unfold colS; omega, fun h' => ⟨⟨Nat.zero_le _, by have : (y 1).val < 512 := (y 1).isLt; omega⟩, by unfold colS at h'; omega⟩⟩)
  unfold headProg
  simp only [Prog.lift, Prog.bind_op, Prog.bind_ret, Prog.pure_eq_ret]
  iintro ⟨Hk, Hv, HA, HT, HS⟩ HQ
  iapply (wp_ld c (cs := .vmem) 3 rfl Finset.univ k (fun _ => Finset.mem_univ _)) $$ Hk; iintro Hk
  iapply (wp_ld c (cs := .vmem) 4 rfl Finset.univ v (fun _ => Finset.mem_univ _)) $$ Hv; iintro Hv
  iapply (wp_ld c (cs := .vmem) 6 rfl Finset.univ fA (fun _ => Finset.mem_univ _)) $$ HA; iintro HA
  iapply (wp_st c (cs := .vmem) 6 rfl fA (stp colA (fun _ => True) (fun y _ => locA q k v y) h fA) (fun y => ite_eq_dite (hstrip y) fun hp => by
    rw [shapeCast_self]; exact locA_strip q k v h y ((hstrip y).mp hp).2 _ rfl rfl)) $$ HA; iintro HA
  iapply (wp_ld c (cs := .vmem) 7 rfl Finset.univ fT (fun _ => Finset.mem_univ _)) $$ HT; iintro HT
  iapply (wp_st c (cs := .vmem) 7 rfl fT (stp colA (fun _ => True) (fun y _ => tr (locA q k v y)) h fT) (fun y => ite_eq_dite (hstrip y) fun hp => by
    rw [shapeCast_self]; exact congrArg tr (locA_strip q k v h y ((hstrip y).mp hp).2 _ rfl rfl))) $$ HT; iintro HT
  iapply (wp_ld c (cs := .vmem) 8 rfl Finset.univ fS (fun _ => Finset.mem_univ _)) $$ HS; iintro HS
  iapply (wp_st c (cs := .vmem) 8 rfl fS (fun y => if (y 0).val = 0 ∧ colS y = h.val then locS q k y else fS y) (fun y => ite_eq_dite (hplane 0 y) fun hp => by
    refine (shapeCast_addUnit_apply (n := 2) ![512, 1] _ _ _).trans ?_
    obtain ⟨e0, e1⟩ := (hplane 0 y).mp hp
    exact locS_max q k h y e0 e1 _ rfl)) $$ HS; iintro HS
  iapply (wp_ld c (cs := .vmem) 8 rfl Finset.univ _ (fun _ => Finset.mem_univ _)) $$ HS; iintro HS
  iapply (wp_st c (cs := .vmem) 8 rfl _ (stp colS (fun _ => True) (fun y _ => locS q k y) h fS) (fun y => by
    refine Eq.trans ?_ (ite_eq_dite (u := locS q k y) (hplane 1 y) fun hp => by
      refine (shapeCast_addUnit_apply (n := 2) ![512, 1] _ _ _).trans ?_
      obtain ⟨e0, e1⟩ := (hplane 1 y).mp hp
      exact locS_sum q k h y e0 e1 _ rfl)
    have h2 : (y 0).val = 0 ∨ (y 0).val = 1 := by have : (y 0).val < 2 := (y 0).isLt; omega
    unfold stp
    by_cases hc : colS y = h.val
    · rcases h2 with h2 | h2
      · rw [if_pos ⟨trivial, hc⟩, if_neg (fun h' => by have := h'.1; rw [h2] at this; exact absurd this (by decide)), if_pos ⟨h2, hc⟩]
      · rw [if_pos ⟨trivial, hc⟩, if_pos ⟨h2, hc⟩]
    · rw [if_neg (fun h' => hc h'.2), if_neg (fun h' => hc h'.2), if_neg (fun h' => hc h'.2)])) $$ HS; iintro HS
  iapply (wp_done c _)
  iapply HQ
  isplitl [Hk]; · iexact Hk
  isplitl [Hv]; · iexact Hv
  isplitl [HA]; · iexact HA
  isplitl [HT]; · iexact HT
  iexact HS

/-- The local attention of the listed heads. -/
theorem wp_headsList (c : Dev nD) (q : FVec F S512x1024 .f32) (k v : Vec F S1x2048x8x128 .bf16) {Q : PUnit → sProp 𝕄} :
    ∀ (hs : List (Fin 8)) (fA : S512x1024.Idx → F .f32) (fT : S512x1024.Idx → F .bf16) (fS : S2x512x8.Idx → F .f32),
    iprop(pts c cc0_stg3_0 Finset.univ k ∗ pts c cc0_stg4_0 Finset.univ v
        ∗ pts c cc0_scratch0 Finset.univ fA ∗ pts c cc0_scratch1 Finset.univ fT ∗ pts c cc0_scratch2 Finset.univ fS)
      ⊢ iprop(((pts c cc0_stg3_0 Finset.univ k ∗ pts c cc0_stg4_0 Finset.univ v
            ∗ pts c cc0_scratch0 Finset.univ (stps colA (fun _ => True) (fun y _ => locA q k v y) hs fA)
            ∗ pts c cc0_scratch1 Finset.univ (stps colA (fun _ => True) (fun y _ => tr (locA q k v y)) hs fT)
            ∗ pts c cc0_scratch2 Finset.univ (stps colS (fun _ => True) (fun y _ => locS q k y) hs fS)) -∗ Q ⟨⟩)
          -∗ WP c (headsProg (Memref.whole cc0_stg3_0) (Memref.whole cc0_stg4_0) (Memref.whole cc0_scratch0) (Memref.whole cc0_scratch1)
                (Memref.isWhole_whole _) (Memref.whole cc0_scratch2) q hs) Q)
  | [], fA, fT, fS => by
    unfold headsProg
    rw [Prog.pure_eq_ret]
    iintro H HQ
    iapply (wp_done c _)
    iapply HQ
    iexact H
  | h :: hs, fA, fT, fS => by
    unfold headsProg WP
    rw [wp_bind]
    iintro H HQ
    iapply (wp_head c q h k v fA fT fS) $$ H
    iintro H
    iapply (wp_headsList c q k v hs _ _ _) $$ H
    iexact HQ

/-- The local attention: the accumulator, its mirror and the statistics. -/
theorem wp_heads (c : Dev nD) (q : FVec F S512x1024 .f32) (k v : Vec F S1x2048x8x128 .bf16)
    (fA : S512x1024.Idx → F .f32) (fT : S512x1024.Idx → F .bf16) (fS : S2x512x8.Idx → F .f32) {Q : PUnit → sProp 𝕄} :
    iprop(pts c cc0_stg3_0 Finset.univ k ∗ pts c cc0_stg4_0 Finset.univ v
        ∗ pts c cc0_scratch0 Finset.univ fA ∗ pts c cc0_scratch1 Finset.univ fT ∗ pts c cc0_scratch2 Finset.univ fS)
      ⊢ iprop(((pts c cc0_stg3_0 Finset.univ k ∗ pts c cc0_stg4_0 Finset.univ v
            ∗ pts c cc0_scratch0 Finset.univ (locA q k v)
            ∗ pts c cc0_scratch1 Finset.univ (fun y => tr (locA q k v y))
            ∗ pts c cc0_scratch2 Finset.univ (locS q k)) -∗ Q ⟨⟩)
          -∗ WP c (headsProg (Memref.whole cc0_stg3_0) (Memref.whole cc0_stg4_0) (Memref.whole cc0_scratch0) (Memref.whole cc0_scratch1)
                (Memref.isWhole_whole _) (Memref.whole cc0_scratch2) q heads) Q) := by
  have h := wp_headsList (Q := Q) c q k v heads fA fT fS
  rw [stps_heads colA _ _ colA_lt, stps_heads colA _ _ colA_lt, stps_heads colS _ _ colS_lt] at h
  simpa only [if_true] using h

end Cert.KernelIdeal.K

end
-- ==== Proof.KernelIdeal.Merge.lean ====
/-
  A round's merges on the device: the statistics, then each head's strip of the rows kept, with and without the mirror for
  the next round, each as one entailment at any round size.
-/
module

public import proofs.«01_k».proof.Proof.KernelIdeal.Stages

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The merges element by element -/

section Elements
variable {n : ℕ} (R : RoundAt n)

/-- A statistic's element without its unit axis. -/
theorem drop1 (m : Vec F (SP n) .f32) (z : (SQ n).Idx) :
    shapeCast (SQ n) m R.c1 z = m (ix3 (n0 := 1) (n1 := n) (n2 := 8) 0 (z 0) (z 1)) := by
  refine (shapeCast_dropUnit_apply (n := 2) ![n, 8] m R.c1 z).trans (congrArg m (funext fun a => ?_))
  match a with
  | ⟨0, _⟩ => rfl
  | ⟨1, _⟩ => rfl
  | ⟨2, _⟩ => rfl

theorem mM_apply (m0 mR : Vec F (SP n) .f32) (z : (SQ n).Idx) :
    mM R m0 mR z = FloatOps.maximumf (m0 (ix3 (n0 := 1) (n1 := n) (n2 := 8) 0 (z 0) (z 1))) (mR (ix3 (n0 := 1) (n1 := n) (n2 := 8) 0 (z 0) (z 1))) := by
  show FloatOps.maximumf (shapeCast (SQ n) m0 R.c1 z) (shapeCast (SQ n) mR R.c1 z) = _
  rw [drop1 R, drop1 R]

theorem mF_apply (m0 mR : Vec F (SP n) .f32) (z : (SQ n).Idx) :
    mF R m0 mR z = fF (m0 (ix3 (n0 := 1) (n1 := n) (n2 := 8) 0 (z 0) (z 1))) (mR (ix3 (n0 := 1) (n1 := n) (n2 := 8) 0 (z 0) (z 1))) := by
  show FloatOps.exp (FloatOps.subf (shapeCast (SQ n) m0 R.c1 z) (mM R m0 mR z)) = _
  rw [drop1 R, mM_apply R]; rfl

theorem mG_apply (m0 mR : Vec F (SP n) .f32) (z : (SQ n).Idx) :
    mG R m0 mR z = fG (m0 (ix3 (n0 := 1) (n1 := n) (n2 := 8) 0 (z 0) (z 1))) (mR (ix3 (n0 := 1) (n1 := n) (n2 := 8) 0 (z 0) (z 1))) := by
  show FloatOps.exp (FloatOps.subf (shapeCast (SQ n) mR R.c1 z) (mM R m0 mR z)) = _
  rw [drop1 R, mM_apply R]; rfl

theorem mL_apply (m0 l0 mR lR : Vec F (SP n) .f32) (z : (SQ n).Idx) :
    mL R m0 l0 mR lR z = mrgL (m0 (ix3 (n0 := 1) (n1 := n) (n2 := 8) 0 (z 0) (z 1))) (mR (ix3 (n0 := 1) (n1 := n) (n2 := 8) 0 (z 0) (z 1)))
      (l0 (ix3 (n0 := 1) (n1 := n) (n2 := 8) 0 (z 0) (z 1))) (lR (ix3 (n0 := 1) (n1 := n) (n2 := 8) 0 (z 0) (z 1))) := by
  show FloatOps.addf (FloatOps.mulf (shapeCast (SQ n) l0 R.c1 z) (mF R m0 mR z)) (FloatOps.mulf (shapeCast (SQ n) lR R.c1 z) (mG R m0 mR z)) = _
  rw [drop1 R, drop1 R, mF_apply R, mG_apply R]; rfl

/-- A factor spread along its head's strip. -/
theorem spread (f : FVec F (SQ n) .f32) (h : Fin 8) (x : (SH n).Idx) :
    broadcastTo (SH n) (extractStridedSlice (SC n) ![0, h.val] f (R.sl h)) R.bc x = f (ix2 (n0 := n) (n1 := 8) (x 0) h) := by
  refine (broadcastTo_apply _ R.bc x (ix2 (n0 := n) (n1 := 1) (x 0) 0) ?_).trans
    (extractStridedSlice_apply _ f (R.sl h) _ (ix2 (n0 := n) (n1 := 8) (x 0) h) ?_)
  · intro a
    match a with
    | ⟨0, _⟩ =>
      show (x 0).val = if n = 1 then 0 else (x 0).val
      have h0 : (x 0).val < n := (x 0).isLt
      split
      · omega
      · rfl
    | ⟨1, _⟩ => rfl
  · intro a
    match a with
    | ⟨0, _⟩ => show (x 0).val = 0 + (x 0).val; omega
    | ⟨1, _⟩ => rfl

theorem mA_apply (m0 mR : Vec F (SP n) .f32) (h : Fin 8) (a : Vec F (SH n) .f32) (b : Vec F (SH n) .bf16) (x : (SH n).Idx) :
    mA R m0 mR h a b x = mrgA (m0 (ix3 (n0 := 1) (n1 := n) (n2 := 8) 0 (x 0) h)) (mR (ix3 (n0 := 1) (n1 := n) (n2 := 8) 0 (x 0) h)) (a x) (b x) := by
  show FloatOps.addf (FloatOps.mulf (a x) (broadcastTo (SH n) (extractStridedSlice (SC n) ![0, h.val] (mF R m0 mR) (R.sl h)) R.bc x))
    (FloatOps.mulf (FloatOps.extf .f32 bitsLt_bf16_f32 (b x)) (broadcastTo (SH n) (extractStridedSlice (SC n) ![0, h.val] (mG R m0 mR) (R.sl h)) R.bc x)) = _
  rw [spread R, spread R, mF_apply R, mG_apply R]; rfl

end Elements

/-! ## One head merged -/

section Merges
variable {n : ℕ} (R : RoundAt n) (b : ℕ) (hH : ∀ h : Fin 8, R.oH h = ![b, 128 * h.val])
  (m0 mR : Vec F (SP n) .f32) (P P' : S512x1024.Idx → F .f32) (B : S512x1024.Idx → F .bf16)
  (S : Finset S512x1024.Idx) (g : S512x1024.Idx → F .bf16)

/-- Row `i` is one of the `n` from `b`. -/
abbrev In (b n i : ℕ) : Prop := b ≤ i ∧ i < b + n

/-- A merge of an element. -/
abbrev mrgU (y : S512x1024.Idx) (a : F .f32) : F .f32 := mrgA (P y) (P' y) a (B y)

/-- What a round's merges are given: the own and the received maxima, as read and by element, and the landed rows, which
are held. -/
structure MergeIn : Prop where
  oH : ∀ h : Fin 8, R.oH h = ![b, 128 * h.val]
  hP : ∀ (x : (SP n).Idx) (y : S512x1024.Idx), (y 0).val = b + (x 1).val → colA y = (x 2).val → m0 x = P y
  hR : ∀ (x : (SP n).Idx) (y : S512x1024.Idx), (y 0).val = b + (x 1).val → colA y = (x 2).val → mR x = P' y
  hB : ∀ z y : S512x1024.Idx, In b n (y 0).val → (z 0).val + b = (y 0).val + R.rx → z 1 = y 1 → g z = B y
  hS : ∀ z : S512x1024.Idx, In R.rx n (z 0).val → z ∈ S

variable {R b m0 mR P P' B S g} (M : MergeIn R b m0 mR P P' B S g)

include M in
theorem MergeIn.iff (h : Fin 8) (y : S512x1024.Idx) :
    (∀ a : Fin 2, R.oH h a ≤ (y a).val ∧ (y a).val < R.oH h a + (SH n).size a) ↔ In b n (y 0).val ∧ colA y = h.val := by
  rw [M.oH h]; exact strip_iff b n h y

include M in
/-- The merged strip, at an element of the accumulator. -/
theorem MergeIn.val (h : Fin 8) (f : S512x1024.Idx → F .f32) (y : S512x1024.Idx) (hy : In b n (y 0).val ∧ colA y = h.val) (x : (SH n).Idx)
    (h0 : (x 0).val = (y 0).val - b) (h1 : (x 1).val = (y 1).val - 128 * h.val) :
    mA R m0 mR h (fun x => f ((Rect.unit (s := S512x1024) (R.oH h) (SH n).size (R.iH h)).toLoadRect.idx x))
      (fun x => g ((Rect.unit (s := S512x1024) ![R.rx, 128 * h.val] (SH n).size (R.jH h)).toLoadRect.idx x)) x = mrgU P P' B y (f y) := by
  obtain ⟨⟨hb, hn⟩, hc⟩ := hy
  have hc' : (y 1).val / 128 = h.val := hc
  have e : (Rect.unit (s := S512x1024) (R.oH h) (SH n).size (R.iH h)).toLoadRect.idx x = y := by
    funext a
    match a with
    | ⟨0, _⟩ =>
      refine Fin.ext ?_
      show R.oH h 0 + 1 * (x 0).val = (y 0).val
      rw [M.oH h, h0]; show b + 1 * ((y 0).val - b) = _; omega
    | ⟨1, _⟩ =>
      refine Fin.ext ?_
      show R.oH h 1 + 1 * (x 1).val = (y 1).val
      rw [M.oH h, h1]; show 128 * h.val + 1 * ((y 1).val - 128 * h.val) = _; omega
  rw [mA_apply R]
  show mrgA _ _ (f _) (g _) = mrgA (P y) (P' y) (f y) (B y)
  rw [e, M.hP _ y (by show (y 0).val = b + (x 0).val; omega) hc, M.hR _ y (by show (y 0).val = b + (x 0).val; omega) hc,
    M.hB _ y ⟨hb, hn⟩ (by show R.rx + 1 * (x 0).val + b = _; omega)
      (Fin.ext (by show 128 * h.val + 1 * (x 1).val = (y 1).val; omega))]

include M in
/-- One head's strip of the kept rows merged. -/
theorem wp_merge (c : Dev nD) (h : Fin 8) (f : S512x1024.Idx → F .f32) {Q : FVec F (SH n) .f32 → sProp 𝕄} :
    iprop(pts c cc0_scratch0 Finset.univ f ∗ pts c cc0_scratch3 S g)
      ⊢ iprop(((pts c cc0_scratch0 Finset.univ (stp colA (fun y => In b n (y 0).val) (mrgU P P' B) h f) ∗ pts c cc0_scratch3 S g)
            -∗ Q (mA R m0 mR h (fun x => f ((Rect.unit (s := S512x1024) (R.oH h) (SH n).size (R.iH h)).toLoadRect.idx x))
                (fun x => g ((Rect.unit (s := S512x1024) ![R.rx, 128 * h.val] (SH n).size (R.jH h)).toLoadRect.idx x))))
          -∗ WP c (mergeProg (Memref.whole cc0_scratch0) (Memref.whole cc0_scratch3) R m0 mR h) Q) := by
  unfold mergeProg
  simp only [Prog.lift, Prog.bind_op, Prog.bind_ret, Prog.pure_eq_ret]
  iintro ⟨HA, HG⟩ HQ
  iapply (wp_ld c (cs := .vmem) 6 rfl Finset.univ f (fun _ => Finset.mem_univ _)) $$ HA; iintro HA
  iapply (wp_ld c (cs := .vmem) 9 rfl S g (fun x => M.hS _ ⟨Nat.le_add_right _ _, by
    have : (x 0).val < n := (x 0).isLt
    show R.rx + 1 * (x 0).val < R.rx + n; omega⟩)) $$ HG; iintro HG
  iapply (wp_ld c (cs := .vmem) 6 rfl Finset.univ f (fun _ => Finset.mem_univ _)) $$ HA; iintro HA
  iapply (wp_st c (cs := .vmem) 6 rfl f (stp colA (fun y => In b n (y 0).val) (mrgU P P' B) h f) (fun y => ite_eq_dite (M.iff h y) fun hp => by
    rw [shapeCast_self]
    exact M.val h f y ((M.iff h y).mp hp) _ (by rw [Rect.unitLocal_val, M.oH h]; rfl) (by rw [Rect.unitLocal_val, M.oH h]; rfl))) $$ HA; iintro HA
  iapply (wp_done c (mA R m0 mR h (fun x => f ((Rect.unit (s := S512x1024) (R.oH h) (SH n).size (R.iH h)).toLoadRect.idx x))
                (fun x => g ((Rect.unit (s := S512x1024) ![R.rx, 128 * h.val] (SH n).size (R.jH h)).toLoadRect.idx x))))
  iapply HQ
  isplitl [HA]; · iexact HA
  iexact HG

/-- The mirror of one head's merged strip. -/
theorem wp_mirror (hH : ∀ h : Fin 8, R.oH h = ![b, 128 * h.val]) (X : RoundTx R) (c : Dev nD) (h : Fin 8) (a : FVec F (SH n) .f32) (u : S512x1024.Idx → F .bf16)
    (ha : ∀ (y : S512x1024.Idx), In b n (y 0).val ∧ colA y = h.val → ∀ x : (SH n).Idx, (x 0).val = (y 0).val - b → (x 1).val = (y 1).val - 128 * h.val → tr (a x) = u y)
    (f : S512x1024.Idx → F .bf16) {Q : PUnit → sProp 𝕄} :
    (pts c cc0_scratch1 Finset.univ f)
      ⊢ iprop((pts c cc0_scratch1 Finset.univ (stp colA (fun y => In b n (y 0).val) (fun y _ => u y) h f) -∗ Q ⟨⟩)
          -∗ WP c (mirrorProg (Memref.whole cc0_scratch1) (Memref.isWhole_whole _) R X h a) Q) := by
  have hiff : ∀ y : S512x1024.Idx, (∀ a : Fin 2, R.oH h a ≤ (y a).val ∧ (y a).val < R.oH h a + (SH n).size a) ↔ In b n (y 0).val ∧ colA y = h.val := fun y => by
    rw [hH h]; exact strip_iff b n h y
  unfold mirrorProg
  simp only [Prog.lift, Prog.bind_op, Prog.bind_ret, Prog.pure_eq_ret]
  iintro HT HQ
  iapply (wp_ld c (cs := .vmem) 7 rfl Finset.univ f (fun _ => Finset.mem_univ _)) $$ HT; iintro HT
  iapply (wp_st c (cs := .vmem) 7 rfl f (stp colA (fun y => In b n (y 0).val) (fun y _ => u y) h f) (fun y => ite_eq_dite (hiff y) fun hp => by
    rw [shapeCast_self]
    exact ha y ((hiff y).mp hp) _ (by rw [Rect.unitLocal_val, hH h]; rfl) (by rw [Rect.unitLocal_val, hH h]; rfl))) $$ HT; iintro HT
  iapply (wp_done c _)
  iapply HQ
  iexact HT

/-- The mirror with the listed strips merged. -/
def mirC (b n : ℕ) (u : S512x1024.Idx → F .f32 → F .f32) (hs : List (Fin 8)) (f : S512x1024.Idx → F .f32) (fT : S512x1024.Idx → F .bf16) :
    S512x1024.Idx → F .bf16 := stps colA (fun y => In b n (y 0).val) (fun y _ => tr (u y (f y))) hs fT

/-- The mirrors of the strips still to be merged do not depend on those already merged. -/
theorem mirror_stps (u : S512x1024.Idx → F .f32 → F .f32) (h : Fin 8) (hs : List (Fin 8)) (hd : (h :: hs).Nodup)
    (f : S512x1024.Idx → F .f32) (fT : S512x1024.Idx → F .bf16) :
    mirC b n u hs (stp colA (fun y => In b n (y 0).val) u h f)
        (stp colA (fun y => In b n (y 0).val) (fun y _ => tr (u y (f y))) h fT) = mirC b n u (h :: hs) f fT := by
  unfold mirC
  show _ = stps _ _ _ hs (stp _ _ _ h fT)
  funext y
  rw [stps_apply _ _ _ _ _ _ (List.nodup_cons.mp hd).2, stps_apply _ _ _ _ _ _ (List.nodup_cons.mp hd).2]
  by_cases hc : In b n (y 0).val ∧ ∃ h' ∈ hs, colA y = h'.val
  · rw [if_pos hc, if_pos hc]
    have hn : ¬ (In b n (y 0).val ∧ colA y = h.val) := fun h2 => by
      obtain ⟨_, h', hm, he⟩ := hc
      exact (List.nodup_cons.mp hd).1 (by rwa [Fin.ext (h2.2.symm.trans he)])
    unfold stp
    rw [if_neg hn]
  · rw [if_neg hc, if_neg hc]

include M in
/-- The listed heads merged and mirrored. -/
theorem wp_mergesTxList (X : RoundTx R) (c : Dev nD) {Q : PUnit → sProp 𝕄} :
    ∀ (hs : List (Fin 8)) (hd : hs.Nodup) (f : S512x1024.Idx → F .f32) (fT : S512x1024.Idx → F .bf16),
    iprop(pts c cc0_scratch0 Finset.univ f ∗ pts c cc0_scratch3 S g ∗ pts c cc0_scratch1 Finset.univ fT)
      ⊢ iprop(((pts c cc0_scratch0 Finset.univ (stps colA (fun y => In b n (y 0).val) (mrgU P P' B) hs f) ∗ pts c cc0_scratch3 S g
            ∗ pts c cc0_scratch1 Finset.univ (mirC b n (mrgU P P' B) hs f fT)) -∗ Q ⟨⟩)
          -∗ WP c (mergesTx (Memref.whole cc0_scratch0) (Memref.whole cc0_scratch1) (Memref.isWhole_whole _) (Memref.whole cc0_scratch3) R X m0 mR hs) Q)
  | [], hd, f, fT => by
    unfold mergesTx
    rw [Prog.pure_eq_ret]
    iintro H HQ
    iapply (wp_done c _)
    iapply HQ
    iexact H
  | h :: hs, hd, f, fT => by
    rw [← mirror_stps (mrgU P P' B) h hs hd f fT]
    unfold mergesTx WP
    simp only [wp_bind]
    iintro ⟨HA, HG, HT⟩ HQ
    iapply (wp_merge M c h f) $$ [HA HG]
    · isplitl [HA]; · iexact HA
      iexact HG
    iintro ⟨HA, HG⟩
    iapply (wp_mirror M.oH X c h _ (fun y => tr (mrgU P P' B y (f y))) (fun y hy x h0 h1 => congrArg tr (M.val h f y hy x h0 h1)) fT) $$ HT
    iintro HT
    iapply (wp_mergesTxList X c hs (List.nodup_cons.mp hd).2 _ _) $$ [HA HG HT]
    · isplitl [HA]; · iexact HA
      isplitl [HG]; · iexact HG
      iexact HT
    iexact HQ

include M in
/-- The listed heads merged. -/
theorem wp_mergesList (c : Dev nD) {Q : PUnit → sProp 𝕄} :
    ∀ (hs : List (Fin 8)) (f : S512x1024.Idx → F .f32),
    iprop(pts c cc0_scratch0 Finset.univ f ∗ pts c cc0_scratch3 S g)
      ⊢ iprop(((pts c cc0_scratch0 Finset.univ (stps colA (fun y => In b n (y 0).val) (mrgU P P' B) hs f) ∗ pts c cc0_scratch3 S g) -∗ Q ⟨⟩)
          -∗ WP c (merges (Memref.whole cc0_scratch0) (Memref.whole cc0_scratch3) R m0 mR hs) Q)
  | [], f => by
    unfold merges
    rw [Prog.pure_eq_ret]
    iintro H HQ
    iapply (wp_done c _)
    iapply HQ
    iexact H
  | h :: hs, f => by
    unfold merges WP
    simp only [wp_bind]
    iintro H HQ
    iapply (wp_merge M c h f) $$ H
    iintro H
    iapply (wp_mergesList c hs _) $$ H
    iexact HQ

end Merges

end Cert.KernelIdeal.K

end
-- ==== Proof.KernelIdeal.Round.lean ====
/-
  A round's work after its exchange, on the device: the statistics merged, then the accumulator and its mirror, from the
  contents before the round to those after it.
-/
module

public import proofs.«01_k».proof.Proof.KernelIdeal.Merge

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The statistics merged -/

/-- The rows a round's transfers land in, of the accumulator's receive buffer. -/
def landA (t : Fin 5) : Finset S512x1024.Idx := Finset.univ.filter fun z => In (rxo t) (half t) (z 0).val
/-- The same rows of the statistics' receive buffer. -/
def landS (t : Fin 5) : Finset S2x512x8.Idx := Finset.univ.filter fun z => In (rxo t) (half t) (z 1).val

theorem mem_landA {t : Fin 5} {z : S512x1024.Idx} : z ∈ landA t ↔ In (rxo t) (half t) (z 0).val := by simp [landA]
theorem mem_landS {t : Fin 5} {z : S2x512x8.Idx} : z ∈ landS t ↔ In (rxo t) (half t) (z 1).val := by simp [landS]

/-- The statistics merged, by element. -/
def statC (b n : ℕ) (f r : S2x512x8.Idx → F .f32) (y : S2x512x8.Idx) : F .f32 :=
  if In b n (y 1).val then
    (if (y 0).val = 0 then FloatOps.maximumf (f y) (r y) else mrgL (f (mxAt y)) (r (mxAt y)) (f y) (r y))
  else f y

/-- The statistics with the maxima merged. -/
def statC0 (b n : ℕ) (f r : S2x512x8.Idx → F .f32) (y : S2x512x8.Idx) : F .f32 :=
  if (y 0).val = 0 ∧ In b n (y 1).val ∧ (0 ≤ (y 2).val ∧ (y 2).val < 0 + 8) then FloatOps.maximumf (f y) (r y) else f y

section Stat
variable {n : ℕ} {R : RoundAt n} {b : ℕ}

/-- An element of a statistic read from rows `b`. -/
theorem stat_idx {p : ℕ} {o : Fin 3 → ℕ} (ho : o = ![p, b, 0]) (i : ∀ a, o a + (SP n).size a ≤ S2x512x8.size a) (y : S2x512x8.Idx)
    (x : (SP n).Idx) (h0 : (y 0).val = p) (h1 : b + (x 1).val = (y 1).val) (h2 : x 2 = y 2) :
    (Rect.unit (s := S2x512x8) o (SP n).size i).toLoadRect.idx x = y := by
  subst ho
  funext a
  match a with
  | ⟨0, _⟩ => exact Fin.ext (by have : (x 0).val < 1 := (x 0).isLt; show p + 1 * (x 0).val = (y 0).val; omega)
  | ⟨1, _⟩ => exact Fin.ext (by show b + 1 * (x 1).val = (y 1).val; omega)
  | ⟨2, _⟩ => exact Fin.ext (by have : (x 2).val = (y 2).val := congrArg Fin.val h2; show 0 + 1 * (x 2).val = (y 2).val; omega)

set_option maxHeartbeats 1600000 in
/-- The statistics of the kept rows merged. -/
theorem wp_stat (c : Dev nD) (ho0 : R.o0 = ![0, b, 0]) (ho1 : R.o1 = ![1, b, 0]) (f g r : S2x512x8.Idx → F .f32) (S : Finset S2x512x8.Idx)
    (hB : ∀ z y : S2x512x8.Idx, In b n (y 1).val → (z 1).val + b = (y 1).val + R.rx → z 0 = y 0 → z 2 = y 2 → g z = r y)
    (hS : ∀ z : S2x512x8.Idx, In R.rx n (z 1).val → z ∈ S) {Q : Vec F (SP n) .f32 × Vec F (SP n) .f32 → sProp 𝕄} :
    iprop(pts c cc0_scratch2 Finset.univ f ∗ pts c cc0_scratch4 S g)
      ⊢ iprop(((pts c cc0_scratch2 Finset.univ (statC b n f r) ∗ pts c cc0_scratch4 S g)
            -∗ Q (fun x => f ((Rect.unit (s := S2x512x8) R.o0 (SP n).size R.i0).toLoadRect.idx x),
                fun x => g ((Rect.unit (s := S2x512x8) ![0, R.rx, 0] (SP n).size R.j0).toLoadRect.idx x)))
          -∗ WP c (statProg (Memref.whole cc0_scratch2) (Memref.whole cc0_scratch4) R) Q) := by
  have iff0 : ∀ y : S2x512x8.Idx, (∀ a : Fin 3, R.o0 a ≤ (y a).val ∧ (y a).val < R.o0 a + (SP n).size a)
      ↔ (y 0).val = 0 ∧ In b n (y 1).val ∧ (0 ≤ (y 2).val ∧ (y 2).val < 0 + 8) := fun y => by rw [ho0]; exact plane_iff 0 b 0 n 8 y
  have iff1 : ∀ y : S2x512x8.Idx, (∀ a : Fin 3, R.o1 a ≤ (y a).val ∧ (y a).val < R.o1 a + (SP n).size a)
      ↔ (y 0).val = 1 ∧ In b n (y 1).val ∧ (0 ≤ (y 2).val ∧ (y 2).val < 0 + 8) := fun y => by rw [ho1]; exact plane_iff 1 b 0 n 8 y
  -- a received element
  have rcv : ∀ (p : ℕ) (j : ∀ a, (![p, R.rx, 0] : Fin 3 → ℕ) a + (SP n).size a ≤ S2x512x8.size a) (y : S2x512x8.Idx) (x : (SP n).Idx),
      (y 0).val = p → In b n (y 1).val → b + (x 1).val = (y 1).val → x 2 = y 2 →
      g ((Rect.unit (s := S2x512x8) ![p, R.rx, 0] (SP n).size j).toLoadRect.idx x) = r y := fun p j y x h0 hb h1 h2 =>
    hB _ y hb (by show R.rx + 1 * (x 1).val + b = _; omega)
      (Fin.ext (by have : (x 0).val < 1 := (x 0).isLt; show p + 1 * (x 0).val = _; omega))
      (Fin.ext (by have : (x 2).val = (y 2).val := congrArg Fin.val h2; show 0 + 1 * (x 2).val = _; omega))
  have held : ∀ (p : ℕ) (j : ∀ a, (![p, R.rx, 0] : Fin 3 → ℕ) a + (SP n).size a ≤ S2x512x8.size a) (x : (SP n).Idx),
      (Rect.unit (s := S2x512x8) ![p, R.rx, 0] (SP n).size j).toLoadRect.idx x ∈ S := fun p j x =>
    hS _ ⟨Nat.le_add_right _ _, by have : (x 1).val < n := (x 1).isLt; show R.rx + 1 * (x 1).val < R.rx + n; omega⟩
  unfold statProg
  simp only [Prog.lift, Prog.bind_op, Prog.bind_ret, Prog.pure_eq_ret]
  iintro ⟨HS, HG⟩ HQ
  iapply (wp_ld c (cs := .vmem) 8 rfl Finset.univ f (fun _ => Finset.mem_univ _)) $$ HS; iintro HS
  iapply (wp_ld c (cs := .vmem) 8 rfl Finset.univ f (fun _ => Finset.mem_univ _)) $$ HS; iintro HS
  iapply (wp_ld c (cs := .vmem) 10 rfl S g (held 0 R.j0)) $$ HG; iintro HG
  iapply (wp_ld c (cs := .vmem) 10 rfl S g (held 1 R.j1)) $$ HG; iintro HG
  iapply (wp_ld c (cs := .vmem) 8 rfl Finset.univ f (fun _ => Finset.mem_univ _)) $$ HS; iintro HS
  iapply (wp_st c (cs := .vmem) 8 rfl f (statC0 b n f r) (fun y => ite_eq_dite (iff0 y) fun hp => by
    refine (shapeCast_addUnit_apply (n := 2) ![n, 8] _ R.c2 _).trans ?_
    obtain ⟨e0, e1, e2⟩ := (iff0 y).mp hp
    refine (mM_apply R _ _ _).trans ?_
    have l1 : b + ((y 1).val - R.o0 1) = (y 1).val := by rw [ho0]; show b + ((y 1).val - b) = _; omega
    have l2 : (y 2).val - R.o0 2 = (y 2).val := by rw [ho0]; rfl
    exact congrArg₂ FloatOps.maximumf (congrArg f (stat_idx ho0 R.i0 y _ e0 l1 (Fin.ext l2))) (rcv 0 R.j0 y _ e0 e1 l1 (Fin.ext l2)))) $$ HS; iintro HS
  iapply (wp_ld c (cs := .vmem) 8 rfl Finset.univ _ (fun _ => Finset.mem_univ _)) $$ HS; iintro HS
  iapply (wp_st c (cs := .vmem) 8 rfl _ (statC b n f r) (fun y => by
    refine Eq.trans ?_ (ite_eq_dite (u := mrgL (f (mxAt y)) (r (mxAt y)) (f y) (r y)) (iff1 y) fun hp => by
      refine (shapeCast_addUnit_apply (n := 2) ![n, 8] _ R.c2 _).trans ?_
      obtain ⟨e0, e1, e2⟩ := (iff1 y).mp hp
      refine (mL_apply R _ _ _ _ _).trans ?_
      have l1 : b + ((y 1).val - R.o1 1) = (y 1).val := by rw [ho1]; show b + ((y 1).val - b) = _; omega
      have l2 : (y 2).val - R.o1 2 = (y 2).val := by rw [ho1]; rfl
      have q1 := congrArg f (stat_idx ho0 R.i0 (mxAt y) (ix3 (n0 := 1) (n1 := n) (n2 := 8) 0 ⟨(y 1).val - R.o1 1, by have := e1.2; have := e1.1; omega⟩ ⟨(y 2).val - R.o1 2, by omega⟩) rfl l1 (Fin.ext l2))
      have q2 := rcv 0 R.j0 (mxAt y) (ix3 (n0 := 1) (n1 := n) (n2 := 8) 0 ⟨(y 1).val - R.o1 1, by have := e1.2; have := e1.1; omega⟩ ⟨(y 2).val - R.o1 2, by omega⟩) rfl e1 l1 (Fin.ext l2)
      have q3 := congrArg f (stat_idx ho1 R.i1 y (ix3 (n0 := 1) (n1 := n) (n2 := 8) 0 ⟨(y 1).val - R.o1 1, by have := e1.2; have := e1.1; omega⟩ ⟨(y 2).val - R.o1 2, by omega⟩) e0 l1 (Fin.ext l2))
      have q4 := rcv 1 R.j1 y (ix3 (n0 := 1) (n1 := n) (n2 := 8) 0 ⟨(y 1).val - R.o1 1, by have := e1.2; have := e1.1; omega⟩ ⟨(y 2).val - R.o1 2, by omega⟩) e0 e1 l1 (Fin.ext l2)
      rw [← q1, ← q2, ← q3, ← q4]; rfl)
    have h2 : (y 0).val = 0 ∨ (y 0).val = 1 := by have : (y 0).val < 2 := (y 0).isLt; omega
    have h8 : 0 ≤ (y 2).val ∧ (y 2).val < 0 + 8 := ⟨Nat.zero_le _, by have : (y 2).val < 8 := (y 2).isLt; omega⟩
    unfold statC statC0
    by_cases hi : In b n (y 1).val
    · rw [if_pos hi]
      rcases h2 with h2 | h2
      · rw [if_pos h2, if_neg (fun h => by have := h.1; omega), if_pos ⟨h2, hi, h8⟩]
      · rw [if_neg (by omega), if_pos ⟨h2, hi, h8⟩]
    · rw [if_neg hi, if_neg (fun h => hi h.2.1), if_neg (fun h => hi h.2.1)])) $$ HS; iintro HS
  iapply (wp_done c (α := Vec F (SP n) .f32 × Vec F (SP n) .f32) (fun x => f ((Rect.unit (s := S2x512x8) R.o0 (SP n).size R.i0).toLoadRect.idx x),
                fun x => g ((Rect.unit (s := S2x512x8) ![0, R.rx, 0] (SP n).size R.j0).toLoadRect.idx x)))
  iapply HQ
  isplitl [HS]; · iexact HS
  iexact HG

end Stat

/-! ## A round after its exchange -/

section Local
variable (I : Inp F) (t : Fin 5) (c : Dev nD)

theorem ofNat_val : Fin.ofNat 5 t.val = t := Fin.ext (Nat.mod_eq_of_lt t.isLt)

/-- The accumulator after a round. -/
theorem cont_succ_A : (cont I (t.val + 1)).1 c = fun y => if Keeps t c (y 0).val then updA (cont I t) c (par t c) y ((cont I t).1 c y) else (cont I t).1 c y := by
  show (stepC (Fin.ofNat 5 t.val) (cont I t)).1 c = _
  rw [ofNat_val]; rfl
/-- The statistics after a round. -/
theorem cont_succ_S : (cont I (t.val + 1)).2 c = statC (keepB t c) (half t) ((cont I t).2 c) ((cont I t).2 (par t c)) := by
  show (stepC (Fin.ofNat 5 t.val) (cont I t)).2 c = _
  rw [ofNat_val]; rfl

/-- An element of the landed rows is the partner's. -/
theorem rxA_eq (z y : S512x1024.Idx) (hy : In (keepB t c) (half t) (y 0).val) (h0 : (z 0).val + keepB t c = (y 0).val + rxo t) (h1 : z 1 = y 1) :
    rxA I t c z = txOf (cont I t) (par t c) y := by
  unfold rxA
  refine congrArg _ (funext fun a => ?_)
  match a with
  | ⟨0, _⟩ =>
    refine Fin.ext ?_
    have : (y 0).val < 512 := (y 0).isLt
    show (row (keepB t c + (z 0).val - rxo t)).val = (y 0).val
    rw [row_of_lt (by omega)]; omega
  | ⟨1, _⟩ => exact h1
/-- An element of the landed statistics is the partner's. -/
theorem rxS_eq (z y : S2x512x8.Idx) (hy : In (keepB t c) (half t) (y 1).val) (h1 : (z 1).val + keepB t c = (y 1).val + rxo t) (h0 : z 0 = y 0) (h2 : z 2 = y 2) :
    rxS I t c z = (cont I t).2 (par t c) y := by
  unfold rxS
  refine congrArg _ (funext fun a => ?_)
  match a with
  | ⟨0, _⟩ => exact h0
  | ⟨1, _⟩ =>
    refine Fin.ext ?_
    have : (y 1).val < 512 := (y 1).isLt
    show (row (keepB t c + (z 1).val - rxo t)).val = (y 1).val
    rw [row_of_lt (by omega)]; omega
  | ⟨2, _⟩ => exact h2

variable {I t c} {n : ℕ} {R : RoundAt n} (A : R.At t c)

include A in
/-- What a round's merges are given. -/
theorem mergeIn_at (S : Finset S512x1024.Idx) (hS : S = landA t) :
    MergeIn R (keepB t c) (fun x => (cont I t).2 c ((Rect.unit (s := S2x512x8) R.o0 (SP n).size R.i0).toLoadRect.idx x))
      (fun x => rxS I t c ((Rect.unit (s := S2x512x8) ![0, R.rx, 0] (SP n).size R.j0).toLoadRect.idx x))
      (fun y => (cont I t).2 c (mxOf y)) (fun y => (cont I t).2 (par t c) (mxOf y)) (txOf (cont I t) (par t c)) S (rxA I t c) := by
  subst hS
  have en := A.n_eq
  have er := A.rx
  refine ⟨A.oH, fun x y h0 h1 => ?_, fun x y h0 h1 => ?_, fun z y hy h0 h1 => ?_, fun z hz => ?_⟩
  · exact congrArg _ (stat_idx A.o0 R.i0 (mxOf y) x rfl h0.symm (Fin.ext h1.symm))
  · have hx : (x 1).val < n := (x 1).isLt
    refine rxS_eq I t c _ (mxOf y) ⟨by show _ ≤ (y 0).val; omega, by show (y 0).val < _; omega⟩ ?_ ?_ ?_
    · show R.rx + 1 * (x 1).val + _ = (y 0).val + _; omega
    · exact Fin.ext (by have : (x 0).val < 1 := (x 0).isLt; show 0 + 1 * (x 0).val = 0; omega)
    · exact Fin.ext (by show 0 + 1 * (x 2).val = (y 1).val / 128; have : (y 1).val / 128 = (x 2).val := h1; omega)
  · exact rxA_eq I t c z y (by rw [← en]; exact hy) (by rw [← er]; exact h0) h1
  · exact mem_landA.mpr (by rw [← en, ← er]; exact hz)

include A in
/-- A round's statistics, at its contents. -/
theorem wp_statAt {Q : Vec F (SP n) .f32 × Vec F (SP n) .f32 → sProp 𝕄} :
    iprop(pts c cc0_scratch2 Finset.univ ((cont I t).2 c) ∗ pts c cc0_scratch4 (landS t) (rxS I t c))
      ⊢ iprop(((pts c cc0_scratch2 Finset.univ ((cont I (t.val + 1)).2 c) ∗ pts c cc0_scratch4 (landS t) (rxS I t c))
            -∗ Q (fun x => (cont I t).2 c ((Rect.unit (s := S2x512x8) R.o0 (SP n).size R.i0).toLoadRect.idx x),
                fun x => rxS I t c ((Rect.unit (s := S2x512x8) ![0, R.rx, 0] (SP n).size R.j0).toLoadRect.idx x)))
          -∗ WP c (statProg (Memref.whole cc0_scratch2) (Memref.whole cc0_scratch4) R) Q) := by
  have en := A.n_eq
  have er := A.rx
  rw [cont_succ_S, ← en]
  exact wp_stat c A.o0 A.o1 _ _ _ _ (fun z y hy h1 h0 h2 => rxS_eq I t c z y (by rw [← en]; exact hy) (by rw [← er]; exact h1) h0 h2)
    (fun z hz => mem_landS.mpr (by rw [← en, ← er]; exact hz))

include A in
/-- A mirrored round after its exchange. -/
theorem wp_localTx (X : RoundTx R) {Q : PUnit → sProp 𝕄} :
    iprop(pts c cc0_scratch0 Finset.univ ((cont I t).1 c) ∗ pts c cc0_scratch1 Finset.univ (txOf (cont I t) c)
        ∗ pts c cc0_scratch2 Finset.univ ((cont I t).2 c)
        ∗ pts c cc0_scratch3 (landA t) (rxA I t c) ∗ pts c cc0_scratch4 (landS t) (rxS I t c))
      ⊢ iprop(((pts c cc0_scratch0 Finset.univ ((cont I (t.val + 1)).1 c) ∗ pts c cc0_scratch1 Finset.univ (txOf (cont I (t.val + 1)) c)
            ∗ pts c cc0_scratch2 Finset.univ ((cont I (t.val + 1)).2 c)
            ∗ pts c cc0_scratch3 (landA t) (rxA I t c) ∗ pts c cc0_scratch4 (landS t) (rxS I t c)) -∗ Q ⟨⟩)
          -∗ WP c (statProg (Memref.whole cc0_scratch2) (Memref.whole cc0_scratch4) R >>= fun m =>
              mergesTx (Memref.whole cc0_scratch0) (Memref.whole cc0_scratch1) (Memref.isWhole_whole _) (Memref.whole cc0_scratch3) R X m.1 m.2 heads) Q) := by
  have e1 : (cont I (t.val + 1)).1 c = stps colA (fun y => In (keepB t c) n (y 0).val)
      (mrgU (fun y => (cont I t).2 c (mxOf y)) (fun y => (cont I t).2 (par t c) (mxOf y)) (txOf (cont I t) (par t c))) heads ((cont I t).1 c) := by
    rw [cont_succ_A, stps_heads colA _ _ colA_lt, A.n_eq]; rfl
  have e2 : txOf (cont I (t.val + 1)) c = mirC (keepB t c) n
      (mrgU (fun y => (cont I t).2 c (mxOf y)) (fun y => (cont I t).2 (par t c) (mxOf y)) (txOf (cont I t) (par t c))) heads ((cont I t).1 c) (txOf (cont I t) c) := by
    unfold mirC
    rw [stps_heads colA _ _ colA_lt, A.n_eq]
    funext y
    show tr ((cont I (t.val + 1)).1 c y) = _
    rw [cont_succ_A]
    show tr (if _ then _ else _) = if _ then _ else _
    split <;> rfl
  rw [e1, e2]
  unfold WP
  simp only [wp_bind]
  iintro ⟨HA, HT, HS, HG, HH⟩ HQ
  iapply (wp_statAt A) $$ [HS HH]
  · isplitl [HS]; · iexact HS
    iexact HH
  iintro ⟨HS, HH⟩
  iapply (wp_mergesTxList (mergeIn_at A (landA t) rfl) X c heads (by decide) _ _) $$ [HA HG HT]
  · isplitl [HA]; · iexact HA
    isplitl [HG]; · iexact HG
    iexact HT
  iintro ⟨HA, HG, HT⟩
  iapply HQ
  isplitl [HA]; · iexact HA
  isplitl [HT]; · iexact HT
  isplitl [HS]; · iexact HS
  isplitl [HG]; · iexact HG
  iexact HH

include A in
/-- The last round after its exchange. -/
theorem wp_localLast {Q : PUnit → sProp 𝕄} :
    iprop(pts c cc0_scratch0 Finset.univ ((cont I t).1 c)
        ∗ pts c cc0_scratch2 Finset.univ ((cont I t).2 c)
        ∗ pts c cc0_scratch3 (landA t) (rxA I t c) ∗ pts c cc0_scratch4 (landS t) (rxS I t c))
      ⊢ iprop(((pts c cc0_scratch0 Finset.univ ((cont I (t.val + 1)).1 c)
            ∗ pts c cc0_scratch2 Finset.univ ((cont I (t.val + 1)).2 c)
            ∗ pts c cc0_scratch3 (landA t) (rxA I t c) ∗ pts c cc0_scratch4 (landS t) (rxS I t c)) -∗ Q ⟨⟩)
          -∗ WP c (statProg (Memref.whole cc0_scratch2) (Memref.whole cc0_scratch4) R >>= fun m =>
              merges (Memref.whole cc0_scratch0) (Memref.whole cc0_scratch3) R m.1 m.2 heads) Q) := by
  have e1 : (cont I (t.val + 1)).1 c = stps colA (fun y => In (keepB t c) n (y 0).val)
      (mrgU (fun y => (cont I t).2 c (mxOf y)) (fun y => (cont I t).2 (par t c) (mxOf y)) (txOf (cont I t) (par t c))) heads ((cont I t).1 c) := by
    rw [cont_succ_A, stps_heads colA _ _ colA_lt, A.n_eq]; rfl
  rw [e1]
  unfold WP
  simp only [wp_bind]
  iintro ⟨HA, HS, HG, HH⟩ HQ
  iapply (wp_statAt A) $$ [HS HH]
  · isplitl [HS]; · iexact HS
    iexact HH
  iintro ⟨HS, HH⟩
  iapply (wp_mergesList (mergeIn_at A (landA t) rfl) c heads _) $$ [HA HG]
  · isplitl [HA]; · iexact HA
    iexact HG
  iintro ⟨HA, HG⟩
  iapply HQ
  isplitl [HA]; · iexact HA
  isplitl [HS]; · iexact HS
  isplitl [HG]; · iexact HG
  iexact HH

end Local

end Cert.KernelIdeal.K

end
-- ==== Proof.KernelIdeal.Protocol.lean ====
/-
  The semaphores: which device pays each, when, and what its payment hands over. What a device still owes at each point of
  the body, and that it may wait where it does.
-/
module

public import proofs.«01_k».proof.Proof.KernelIdeal.Round

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The transfers' semaphores: kinds 0 and 1 the accumulator's send and receive, 2 and 3 the statistics', 4 and 5 the
    all-gather's; one of each a round. -/
def xs (k : Fin 6) (t : Fin 5) : DmaSem sig := ⟨6 + 5 * k.val + t.val, by show _ < 36; omega⟩
/-- The kind of a transfer's semaphore. -/
def kindOf (q : DmaSem sig) : Fin 6 := Fin.ofNat 6 ((q.val - 6) / 5)
/-- The round of a transfer's semaphore. -/
def roundOf (q : DmaSem sig) : Fin 5 := Fin.ofNat 5 ((q.val - 6) % 5)

theorem kindOf_xs : ∀ k t, kindOf (xs k t) = k := by decide
theorem roundOf_xs : ∀ k t, roundOf (xs k t) = t := by decide
theorem xs_ge (k : Fin 6) (t : Fin 5) : 6 ≤ (xs k t).val := by show 6 ≤ 6 + 5 * k.val + t.val; omega

theorem sem6 : ∀ t, semAt cc0_scratch6 t = xs 0 t := by decide
theorem sem7 : ∀ t, semAt cc0_scratch7 t = xs 1 t := by decide
theorem sem8 : ∀ t, semAt cc0_scratch8 t = xs 2 t := by decide
theorem sem9 : ∀ t, semAt cc0_scratch9 t = xs 3 t := by decide
theorem sem10 : ∀ t, semAt cc0_scratch10 t = xs 4 t := by decide
theorem sem11 : ∀ t, semAt cc0_scratch11 t = xs 5 t := by decide

/-- What a transfer credits its two semaphores. -/
def amt (k : Fin 6) (t : Fin 5) : ℕ :=
  if k.val < 2 then (cc0_scratch3 : Ref sig .tc).dmaCredit (SR (half t)) .bf16
  else if k.val < 4 then (cc0_scratch4 : Ref sig .tc).dmaCredit (ST (half t)) .f32
  else (cc0_scratch5 : Ref sig .tc).dmaCredit (SR (16 * 2 ^ t.val)) .bf16

theorem amt_pos (k : Fin 6) (t : Fin 5) : 0 < amt k t := by
  have hh : 0 < half t := Nat.mul_pos (by decide) (Nat.pow_pos (by decide))
  have hg : 0 < 16 * 2 ^ t.val := Nat.mul_pos (by decide) (Nat.pow_pos (by decide))
  have hR : ∀ n, 0 < n → 0 < (SR n).numel := fun n hn => by
    show 0 < ∏ a, (![n, 1024] : Fin 2 → ℕ) a
    rw [Fin.prod_univ_two]; exact Nat.mul_pos hn (show 0 < 1024 by decide)
  have hT : ∀ n, 0 < n → 0 < (ST n).numel := fun n hn => by
    show 0 < ∏ a, (![2, n, 8] : Fin 3 → ℕ) a
    rw [Fin.prod_univ_three]; exact Nat.mul_pos (Nat.mul_pos (show 0 < 2 by decide) hn) (show 0 < 8 by decide)
  unfold amt
  split
  · exact sig.dmaCredit_pos _ _ _ _ _ (hR _ hh)
  · split
    · exact sig.dmaCredit_pos _ _ _ _ _ (hT _ hh)
    · exact sig.dmaCredit_pos _ _ _ _ _ (hR _ hg)

abbrev dcell (c : Dev nD) (k : Fin 6) (t : Fin 5) : GSem nD τ sig := ((c : Thread nD τ), .dma (xs k t))
abbrev rcell (c : Dev nD) (s : Sem sig) : GSem nD τ sig := ((c : Thread nD τ), .reg s)

/-! ## What a payment hands over -/

/-- The rows device `c` holds of the result before round `t` of the all-gather. -/
def gset (t : ℕ) (c : Dev nD) : Finset S512x1024.Idx :=
  Finset.univ.filter fun z => In (gbase t c) (16 * 2 ^ t) (z 0).val
theorem mem_gset {t : ℕ} {c : Dev nD} {z : S512x1024.Idx} : z ∈ gset t c ↔ In (gbase t c) (16 * 2 ^ t) (z 0).val := by simp [gset]

/-- The accumulator's rows device `c` sends in round `t`. -/
def sentA (t : Fin 5) (c : Dev nD) : Finset S512x1024.Idx := Finset.univ.filter fun z => In (keepB t (par t c)) (half t) (z 0).val
/-- The statistics' rows it sends. -/
def sentS (t : Fin 5) (c : Dev nD) : Finset S2x512x8.Idx := Finset.univ.filter fun z => In (keepB t (par t c)) (half t) (z 1).val
theorem mem_sentA {t : Fin 5} {c : Dev nD} {z : S512x1024.Idx} : z ∈ sentA t c ↔ In (keepB t (par t c)) (half t) (z 0).val := by simp [sentA]
theorem mem_sentS {t : Fin 5} {c : Dev nD} {z : S2x512x8.Idx} : z ∈ sentS t c ↔ In (keepB t (par t c)) (half t) (z 1).val := by simp [sentS]

/-- Device `p` lets its partner of the all-gather's round `d` write where that partner's three transfers to it land. -/
def lend (p : Dev nD) (d : Fin 5) : sProp 𝕄 :=
  iprop((∃ f, pts p cc0_scratch3 (landA (Fin.rev d)) f) ∗ (∃ f, pts p cc0_scratch4 (landS (Fin.rev d)) f)
    ∗ (∃ f, pts p cc0_scratch5 (gset d (gpar d p)) f))

/-- A transfer's payment, per kind: the source back to the sender, the landed rows to the receiver. -/
def xferPay (I : Inp F) (c : Dev nD) (k : Fin 6) (t : Fin 5) : sProp 𝕄 :=
  match k with
  | 0 => pts c cc0_scratch1 (sentA t c) (txOf (cont I t) c)
  | 1 => pts c cc0_scratch3 (landA t) (rxA I t c)
  | 2 => pts c cc0_scratch2 (sentS t c) ((cont I t).2 c)
  | 3 => pts c cc0_scratch4 (landS t) (rxS I t c)
  | 4 => pts c cc0_scratch5 (gset t c) (outG I)
  | 5 => pts c cc0_scratch5 (gset t (gpar t c)) (outG I)

instance xferPay_storable (I : Inp F) (c : Dev nD) (k : Fin 6) (t : Fin 5) :
    BI.Storable (upEmb : UEmb _ 𝕄) (xferPay I c k t) := by
  unfold xferPay; split <;> infer_instance
instance lend_storable (p : Dev nD) (d : Fin 5) : BI.Storable (upEmb : UEmb _ 𝕄) (lend (F := F) p d) := by
  unfold lend; infer_instance

def dutiesOf : SemLoc sig → Finset (Fin 5)
  | .reg _ => Finset.univ
  | .dma q => if 6 ≤ q.val then {0} else ∅
def amtOf : SemLoc sig → ℕ
  | .reg _ => 1
  | .dma q => amt (kindOf q) (roundOf q)
def payOf (I : Inp F) (c : Dev nD) : SemLoc sig → Fin 5 → sProp 𝕄
  | .reg s, d => if s = 0 then lend (gpar d c) d else iprop(emp)
  | .dma q, _ => xferPay I c (kindOf q) (roundOf q)

/-- Every semaphore has one round: five units from the five partners at a barrier, one transfer's credit elsewhere. -/
def Rd (I : Inp F) : Rounds.Schedule (GSem nD τ sig) (Fin 5) 𝕄 where
  duties g r := if r = 0 ∧ g.1.2 = .tc then dutiesOf g.2 else ∅
  unitless _ := False
  amount g _ _ := amtOf g.2
  payload g _ d := payOf I g.1.1 g.2 d
  amount_pos g _ _ _ := by
    show 0 < amtOf g.2
    cases g.2 with
    | reg _ => exact Nat.one_pos
    | dma q => exact amt_pos _ _

instance Rd_payload_storable (I : Inp F) (g : GSem nD τ sig) (r : ℕ) (d : Fin 5) :
    BI.Storable (upEmb : UEmb _ 𝕄) ((Rd (F := F) I).payload g r d) := by
  show BI.Storable upEmb (payOf I g.1.1 g.2 d)
  cases g.2 with
  | reg s =>
    show BI.Storable upEmb (if s = 0 then lend (gpar d g.1.1) d else iprop(emp))
    by_cases h : s = 0
    · rw [if_pos h]; infer_instance
    · rw [if_neg h]; infer_instance
  | dma q => unfold payOf; infer_instance

section Sched
variable (I : Inp F) (c : Dev nD) (k : Fin 6) (t d : Fin 5) (s : Sem sig)

theorem duties_dma : (Rd I).duties (dcell c k t) 0 = {0} := by
  have h : (0 : ℕ) = 0 ∧ (dcell c k t).1.2 = .tc := ⟨rfl, rfl⟩
  dsimp only [Rd]
  rw [if_pos h]
  exact if_pos (xs_ge k t)
theorem duties_reg : (Rd I).duties (rcell c s) 0 = Finset.univ := by
  have h : (0 : ℕ) = 0 ∧ (rcell c s).1.2 = .tc := ⟨rfl, rfl⟩
  dsimp only [Rd]
  rw [if_pos h]
  rfl
theorem duties_later (g : GSem nD τ sig) : ∀ r, 1 ≤ r → (Rd I).duties g r = ∅ :=
  fun r hr => if_neg fun h => by omega
theorem amount_dma' : (Rd I).amount (dcell c k t) 0 d = amt k t := by
  show amt (kindOf (xs k t)) (roundOf (xs k t)) = _
  rw [kindOf_xs, roundOf_xs]
theorem amount_reg : (Rd I).amount (rcell c s) 0 d = 1 := rfl
theorem payload_dma : (Rd I).payload (dcell c k t) 0 d = xferPay I c k t := by
  show xferPay I c (kindOf (xs k t)) (roundOf (xs k t)) = _
  rw [kindOf_xs, roundOf_xs]
theorem expect_dma : (Rd I).expect (dcell c k t) 0 = amt k t := by
  unfold Schedule.expect Schedule.amountOf; rw [duties_dma, Finset.sum_singleton, amount_dma']
theorem expect_reg : (Rd I).expect (rcell c s) 0 = 5 := by
  unfold Schedule.expect Schedule.amountOf; rw [duties_reg, Finset.sum_congr rfl fun d _ => amount_reg I c d s]; rfl
theorem rest_dma : bigSep ((Rd I).duties (dcell c k t) 0 \ ∅) (fun d => (Rd I).payload (dcell c k t) 0 d) = xferPay I c k t := by
  rw [Finset.sdiff_empty, duties_dma, bigSep_singleton, payload_dma]
theorem rest_reg : bigSep ((Rd I).duties (rcell c s) 0 \ ∅) (fun d => (Rd I).payload (rcell c s) 0 d)
    = bigSep Finset.univ fun d => payOf I c (.reg s) d := by
  rw [Finset.sdiff_empty, duties_reg]; rfl
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
end Sched

/-! ## What a device owes -/

/-- Payments still to make: through which partner, to which semaphore, how much. -/
abbrev Pays := List (Fin 5 × SemLoc sig × ℕ)

/-- What device `c` owes: the listed payments, the first of them the next. -/
def owe (c : Dev nD) : Pays → CellTallies nD τ sig Unit
  | [] => 0
  | x :: l => owe c l + tallyAt ((par x.1 c : Thread nD τ), x.2.1) () x.2.2

abbrev payR (s : Sem sig) (d : Fin 5) : Fin 5 × SemLoc sig × ℕ := (Fin.rev d, .reg s, 1)
abbrev payX (q : Fin 5) (k : Fin 6) (t : Fin 5) : Fin 5 × SemLoc sig × ℕ := (q, .dma (xs k t), amt k t)

abbrev paysE : Pays := [payR 1 0, payR 1 1, payR 1 2, payR 1 3, payR 1 4]
abbrev paysG4 : Pays := payX 0 5 4 :: paysE
abbrev paysG3 : Pays := payX 1 5 3 :: paysG4
abbrev paysG2 : Pays := payX 2 5 2 :: paysG3
abbrev paysG1 : Pays := payX 3 5 1 :: paysG2
abbrev paysG0 : Pays := payX 4 5 0 :: paysG1
abbrev paysR4 : Pays := payX 4 1 4 :: payX 4 3 4 :: paysG0
abbrev paysR3 : Pays := payX 3 1 3 :: payX 3 3 3 :: paysR4
abbrev paysR2 : Pays := payX 2 1 2 :: payX 2 3 2 :: paysR3
abbrev paysR1 : Pays := payX 1 1 1 :: payX 1 3 1 :: paysR2
abbrev paysR0 : Pays := payX 0 1 0 :: payX 0 3 0 :: paysR1
abbrev pays : Pays := payR 0 0 :: payR 0 1 :: payR 0 2 :: payR 0 3 :: payR 0 4 :: paysR0

/-- The levels: barrier, then the rounds in order, then the closing barrier; a device's own send and staging semaphores below
    all. -/
def lvS : SemLoc sig → ℕ
  | .reg s => if s = 0 then 1 else 100
  | .dma q => if q.val < 6 then 0
    else if kindOf q = 1 ∨ kindOf q = 3 then 2 + (roundOf q).val else if kindOf q = 5 then 10 + (roundOf q).val else 0

def L (g : GSem nD τ sig) : Finset Unit := if g.1.2 = .tc then {()} else ∅
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

/-- What is owed anywhere is a listed payment. -/
theorem owe_pos {c : Dev nD} {g : GSem nD τ sig} {u : Unit} : ∀ {l : Pays}, 0 < owe c l g u →
    ∃ x ∈ l, g = ((par x.1 c : Thread nD τ), x.2.1)
  | [], h => absurd h (Nat.lt_irrefl 0)
  | x :: l, h => by
    have h' : 0 < owe c l g u + tallyAt ((par x.1 c : Thread nD τ), x.2.1) () x.2.2 g u := h
    rw [tallyAt_apply] at h'
    by_cases hg : g = ((par x.1 c : Thread nD τ), x.2.1) ∧ u = ()
    · exact ⟨x, List.mem_cons_self, hg.1⟩
    · rw [if_neg hg] at h'
      obtain ⟨y, hy, e⟩ := owe_pos (l := l) h'
      exact ⟨y, List.mem_cons_of_mem _ hy, e⟩

/-- A device may wait on a semaphore below all it owes. -/
theorem mayWait_owe (c : Dev nD) (sm : SemLoc sig) (l : Pays) (h : ∀ x ∈ l, lvS sm < lvS x.2.1) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨x, _, rfl⟩ := owe_pos hg; exact Finset.mem_singleton_self _)
    (fun p hp => by rw [Finset.mem_singleton.mp hp]; exact le_rfl)
    (fun g u hg => by obtain ⟨x, hx, rfl⟩ := owe_pos hg; exact h x hx)

/-! ## The cells and what is known of them -/

/-- The kernel's semaphores: the transfers', the closing barrier's, the opening barrier's. -/
def csem (j : Fin 32) : SemLoc sig :=
  if h : j.val < 30 then .dma ⟨6 + j.val, by show _ < 36; omega⟩ else .reg ⟨31 - j.val, by show _ < 2; omega⟩
abbrev kcell (cj : Dev nD × Fin 32) : GSem nD τ sig := ((cj.1 : Thread nD τ), csem cj.2)
def ix (k : Fin 6) (t : Fin 5) : Fin 32 := ⟨5 * k.val + t.val, by omega⟩
def ir (s : Sem sig) : Fin 32 := ⟨31 - s.val, by omega⟩
theorem csem_ix : ∀ k t, csem (ix k t) = .dma (xs k t) := by decide
theorem csem_ir : ∀ s, csem (ir s) = .reg s := by decide

/-- Every cell's invariant, and that every cell is at its round. -/
def recs (I : Inp F) (K : Dev nD × Fin 32 → ℕ) : sProp 𝕄 :=
  iprop((bigSep Finset.univ fun cj : Dev nD × Fin 32 => cellInv ER (Rd I) (K cj) (kcell cj))
    ∗ bigSep Finset.univ fun cj : Dev nD × Fin 32 => reached ER (kcell cj) 0)

instance recs_persistent (I : Inp F) (K : Dev nD × Fin 32 → ℕ) : BI.Persistent (recs I K) := by unfold recs; infer_instance

theorem inv_x (I : Inp F) (K : Dev nD × Fin 32 → ℕ) (c : Dev nD) (k : Fin 6) (t : Fin 5) :
    recs I K ⊢ cellInv ER (Rd I) (K (c, ix k t)) (dcell c k t) := by
  have h : (bigSep Finset.univ fun cj : Dev nD × Fin 32 => (cellInv ER (Rd I) (K cj) (kcell cj) : sProp 𝕄)) ⊢
      cellInv ER (Rd I) (K (c, ix k t)) (kcell (c, ix k t)) := bigSep_elim (Finset.mem_univ (c, ix k t))
  rw [show kcell (c, ix k t) = dcell c k t from by unfold kcell; rw [csem_ix]] at h
  unfold recs
  iintro ⟨H, -⟩
  iapply h; iexact H
theorem inv_r (I : Inp F) (K : Dev nD × Fin 32 → ℕ) (c : Dev nD) (s : Sem sig) :
    recs I K ⊢ cellInv ER (Rd I) (K (c, ir s)) (rcell c s) := by
  have h : (bigSep Finset.univ fun cj : Dev nD × Fin 32 => (cellInv ER (Rd I) (K cj) (kcell cj) : sProp 𝕄)) ⊢
      cellInv ER (Rd I) (K (c, ir s)) (kcell (c, ir s)) := bigSep_elim (Finset.mem_univ (c, ir s))
  rw [show kcell (c, ir s) = rcell c s from by unfold kcell; rw [csem_ir]] at h
  unfold recs
  iintro ⟨H, -⟩
  iapply h; iexact H
theorem reached_x (I : Inp F) (K : Dev nD × Fin 32 → ℕ) (c : Dev nD) (k : Fin 6) (t : Fin 5) :
    recs I K ⊢ reached ER (dcell c k t) 0 := by
  have h : (bigSep Finset.univ fun cj : Dev nD × Fin 32 => (reached ER (kcell cj) 0 : sProp 𝕄)) ⊢
      reached ER (kcell (c, ix k t)) 0 := bigSep_elim (Finset.mem_univ (c, ix k t))
  rw [show kcell (c, ix k t) = dcell c k t from by unfold kcell; rw [csem_ix]] at h
  unfold recs
  iintro ⟨-, H⟩
  iapply h; iexact H
theorem reached_r (I : Inp F) (K : Dev nD × Fin 32 → ℕ) (c : Dev nD) (s : Sem sig) :
    recs I K ⊢ reached ER (rcell c s) 0 := by
  have h : (bigSep Finset.univ fun cj : Dev nD × Fin 32 => (reached ER (kcell cj) 0 : sProp 𝕄)) ⊢
      reached ER (kcell (c, ir s)) 0 := bigSep_elim (Finset.mem_univ (c, ir s))
  rw [show kcell (c, ir s) = rcell c s from by unfold kcell; rw [csem_ir]] at h
  unfold recs
  iintro ⟨-, H⟩
  iapply h; iexact H

/-! ## One rule per effect -/

/-- What every step of the protocol keeps at hand. -/
def know (I : Inp F) : sProp 𝕄 := iprop((∃ K, recs I K) ∗ levAts L lv)
instance know_persistent (I : Inp F) : BI.Persistent (know I) := by unfold know; infer_instance

/-- Device `c` owes the listed payments. -/
def owed (c : Dev nD) (l : Pays) : sProp 𝕄 := iprop(∃ W, owes (c : Thread nD τ) (owe c l) W)

section Rules
variable (I : Inp F) (c : Dev nD)

/-- A unit to a partner's barrier semaphore. -/
theorem wp_sig (s : Sem sig) (d : Fin 5) (n : Dev nD) (hn : n = gpar d c) (l : Pays)
    {α : Type} {Q : α → sProp 𝕄} {k : PUnit → Prog (BE F) α} :
    iprop(know I ∗ owed c (payR s d :: l) ∗ dutyTok ER (rcell (gpar d c) s) 0 d ∗ payOf I (gpar d c) (.reg s) d)
      ⊢ iprop((owed c l -∗ WP c (k ⟨⟩) Q)
          -∗ WP c (.op (.semSignal ((n : Dev nD) : Thread nD τ) s 1) k) Q) := by
  subst hn
  unfold know owed
  iintro ⟨⟨⟨%K, #HR⟩, #HL⟩, ⟨%W, HO⟩, Ht, Hp⟩ HQ
  iapply (Rounds.wp_signal 𝒱₀ ER (Rd I) (c : Thread nD τ) none (dst := ((gpar d c : Dev nD) : Thread nD τ)) (κ := K (gpar d c, ir s))
      (d := d) (by rw [duties_reg]; exact Finset.mem_univ _) (amount_reg I (gpar d c) d s) () (owe c l) rfl) $$ [HO Ht Hp]
  · isplitr; · iapply (inv_r I K (gpar d c) s); iexact HR
    isplitl [HO]; · iexact HO
    isplitl [Ht]; · iexact Ht
    isplitl [Hp]; · iapply (Entails.of_eq (show payOf I (gpar d c) (.reg s) d = (Rd I).payload (rcell (gpar d c) s) 0 d from rfl)); iexact Hp
    iapply (reached_r I K (gpar d c) s); iexact HR
  iintro HO
  iapply HQ
  iexists W; iexact HO

/-- The wait for all five partners: the semaphore closed, what they handed over taken. -/
theorem wp_five (s : Sem sig) (l : Pays) (hl : ∀ x ∈ l, lvS (.reg s) < lvS x.2.1)
    {α : Type} {Q : α → sProp 𝕄} {k : PUnit → Prog (BE F) α} :
    iprop(know I ∗ owed c l ∗ atPos ER (rcell c s) 0 ∅ 0 ∗ cred (tallyAt (rcell c s) () 5))
      ⊢ iprop(((owed c l ∗ semVal (rcell c s) 0 ∗ bigSep Finset.univ fun d => payOf I c (.reg s) d) -∗ WP c (k ⟨⟩) Q)
          -∗ WP c (.op (.semWait s 5) k) Q) := by
  unfold know owed
  iintro ⟨⟨⟨%K, #HR⟩, #HL⟩, ⟨%W, HO⟩, Hat, Hc⟩ HQ
  iapply (Rounds.wp_wait_rest_token 𝒱₀ ER (Rd I) (c : Thread nD τ) none (κ := K (c, ir s))
      (wpE_semWait_eq 𝒱₀ (c : Thread nD τ) none Set.univ) (Set.mem_univ _) () (O := owe c l) (W := W) (R := 0) (m := 0) (T := ∅)
      (by rw [expect_reg])) $$ [Hc HO Hat]
  · isplitr; · iapply (inv_r I K c s); iexact HR
    isplitl [Hc]; · iexact Hc
    isplitl [HO]; · iexact HO
    isplitr; · iapply (mayWait_owe c (.reg s) l hl); iexact HL
    iexact Hat
  iintro ⟨HO, Hat, -, Hpay⟩
  ihave Hp := (Entails.of_eq (rest_reg I c s)) $$ Hpay
  imod (Rounds.cell_close ER (Rd I) (Set.mem_univ (K (c, ir s))) (fun h => h) (R := 0 + 1) (duties_later I (rcell c s))) $$ [Hat] with Hz
  · isplitr; · iapply (inv_r I K c s); iexact HR
    iexact Hat
  iapply HQ
  isplitl [HO]; · iexists _; iexact HO
  isplitl [Hz]; · iexact Hz
  iexact Hp

/-- The wait on a transfer's semaphore: it closes, and what the transfer handed over is taken. -/
theorem wp_got (k : Fin 6) (t : Fin 5) (sm : DmaSem sig) (hs : sm = xs k t) (l : Pays) (hl : ∀ x ∈ l, lvS (.dma (xs k t)) < lvS x.2.1)
    {s s' : Shape} {e e' : EltTy} {src : Memref sig .tc .vmem s e} {dst : Memref sig .tc .vmem s' e'} {h1 h2}
    (ha : dst.view.dmaCredit = amt k t)
    {α : Type} {Q : α → sProp 𝕄} {kk : PUnit → Prog (BE F) α} :
    iprop(know I ∗ owed c l ∗ atPos ER (dcell c k t) 0 ∅ 0 ∗ cred (tallyAt (dcell c k t) () (amt k t)))
      ⊢ iprop(((owed c l ∗ semVal (dcell c k t) 0 ∗ xferPay I c k t) -∗ WP c (kk ⟨⟩) Q)
          -∗ WP c (.op (.waitDma2 sm src dst h1 h2) kk) Q) := by
  subst hs
  unfold know owed
  iintro ⟨⟨⟨%K, #HR⟩, #HL⟩, ⟨%W, HO⟩, Hat, Hc⟩ HQ
  iapply (Rounds.wp_wait_rest_token 𝒱₀ ER (Rd I) (c : Thread nD τ) none (κ := K (c, ix k t))
      (wpE_waitDma2_eq 𝒱₀ (c : Thread nD τ) none Set.univ) (Set.mem_univ _) () (O := owe c l) (W := W) (R := 0) (m := 0) (T := ∅)
      (by rw [Nat.zero_add, expect_dma, ha])) $$ [Hc HO Hat]
  · isplitr; · iapply (inv_x I K c k t); iexact HR
    isplitl [Hc]; · rw [ha]; iexact Hc
    isplitl [HO]; · iexact HO
    isplitr; · iapply (mayWait_owe c (.dma (xs k t)) l hl); iexact HL
    iexact Hat
  iintro ⟨HO, Hat, -, Hpay⟩
  ihave Hp := (Entails.of_eq (rest_dma I c k t)) $$ Hpay
  imod (Rounds.cell_close ER (Rd I) (Set.mem_univ (K (c, ix k t))) (fun h => h) (R := 0 + 1) (duties_later I (dcell c k t))) $$ [Hat] with Hz
  · isplitr; · iapply (inv_x I K c k t); iexact HR
    iexact Hat
  iapply HQ
  isplitl [HO]; · iexists _; iexact HO
  isplitl [Hz]; · iexact Hz
  iexact Hp

/-- A transfer to a partner. -/
theorem wp_give (k1 k2 : Fin 6) (q t : Fin 5) (n : Dev nD) (hn : n = par q c) (s1 s2 : DmaSem sig) (hs1 : s1 = xs k1 t) (hs2 : s2 = xs k2 t)
    (l : Pays) {s : Shape} {e : EltTy} {src dst : Memref sig .tc .vmem s e} {hsc h1 h2 h3}
    (ha : dst.view.dmaCredit = amt k2 t) (ha' : amt k1 t = amt k2 t)
    (fs : Buf (Elt F) (src.view.loc (c : Thread nD τ))) (fd : Buf (Elt F) (dst.view.loc ((par q c : Dev nD) : Thread nD τ)))
    (hp1 : (src.view.loc (c : Thread nD τ) ↦[src.view.set]{fullShare} fs : sProp 𝕄) ⊢ xferPay I c k1 t)
    (hp2 : (dst.view.loc ((par q c : Dev nD) : Thread nD τ) ↦[dst.view.set]{fullShare} (dst.view.write (Elt F) fd (src.view.read (Elt F) fs) Finset.univ) : sProp 𝕄)
      ⊢ xferPay I (par q c) k2 t)
    {α : Type} {Q : α → sProp 𝕄} {kk : PUnit → Prog (BE F) α} :
    iprop(know I ∗ owed c (payX q k2 t :: l) ∗ dutyTok ER (dcell c k1 t) 0 0 ∗ dutyTok ER (dcell (par q c) k2 t) 0 0
        ∗ (src.view.loc (c : Thread nD τ) ↦[src.view.set]{fullShare} fs) ∗ (dst.view.loc ((par q c : Dev nD) : Thread nD τ) ↦[dst.view.set]{fullShare} fd))
      ⊢ iprop(((owed c l ∗ cred (tallyAt (dcell c k1 t) () (amt k1 t))) -∗ WP c (kk ⟨⟩) Q)
          -∗ WP c (.op (.enqueueDma src (.remote (Dev.tc n : Thread nD τ) dst (.dma s1) hsc) (.dma s2) h1 h2 h3) kk) Q) := by
  subst hn hs1 hs2
  unfold know owed
  iintro ⟨⟨⟨%K, #HR⟩, #HL⟩, ⟨%W, HO⟩, Ht1, Ht2, Hs, Hd⟩ HQ
  iapply (Rounds.wp_send_pointsTo 𝒱₀ ER (Rd I) (c : Thread nD τ) none (κ₁ := K (c, ix k1 t)) (κ₂ := K (par q c, ix k2 t))
    (r₁ := 0) (r₂ := 0) (d₁ := 0) (d₂ := 0) (fd := fd)
    (by rw [duties_dma]; exact Finset.mem_singleton_self _) (by rw [duties_dma]; exact Finset.mem_singleton_self _)
    () () (amt k2 t) ((View.amount_dma _ _).trans ha) ((amount_dma' I c k1 t 0).trans ha') (amount_dma' I (par q c) k2 t 0) (owe c l) rfl (W := W)
    (by rw [payload_dma]; exact hp1) (by rw [payload_dma]; exact hp2)) $$ [HO Ht1 Ht2 Hs Hd]
  · isplitr; · iapply (inv_x I K c k1 t); iexact HR
    isplitr; · iapply (inv_x I K (par q c) k2 t); iexact HR
    isplitl [Hs]; · iexact Hs
    isplitl [Hd]; · iexact Hd
    isplitl [HO]; · iexact HO
    isplitl [Ht1]; · iexact Ht1
    isplitr; · iapply (reached_x I K c k1 t); iexact HR
    isplitl [Ht2]; · iexact Ht2
    iapply (reached_x I K (par q c) k2 t); iexact HR
  iintro ⟨Hc, HO⟩
  iapply HQ
  isplitl [HO]; · iexists W; iexact HO
  rw [ha']; iexact Hc

end Rules

end Cert.KernelIdeal.K

end
-- ==== Proof.KernelIdeal.Exch.lean ====
/-
  The rounds of the body with their transfers: a reduce-scatter round from the contents before it to those after, an
  all-gather round from the rows held before it to those held after.
-/
module

public import proofs.«01_k».proof.Proof.KernelIdeal.Protocol

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

theorem lv_rs : ∀ (k : Fin 6) (t : Fin 5), k.val < 4 → lvS (.dma (xs k t)) ≤ 2 + t.val := by decide
theorem lv_ag : ∀ (k : Fin 6) (t : Fin 5), 4 ≤ k.val → lvS (.dma (xs k t)) ≤ 10 + t.val := by decide

section Pay
variable (I : Inp F) (c : Dev nD) (t : Fin 5)
theorem pay0 : xferPay I c 0 t = pts c cc0_scratch1 (sentA t c) (txOf (cont I t) c) := rfl
theorem pay1 : xferPay I c 1 t = pts c cc0_scratch3 (landA t) (rxA I t c) := rfl
theorem pay2 : xferPay I c 2 t = pts c cc0_scratch2 (sentS t c) ((cont I t).2 c) := rfl
theorem pay3 : xferPay I c 3 t = pts c cc0_scratch4 (landS t) (rxS I t c) := rfl
theorem pay4 : xferPay I c 4 t = pts c cc0_scratch5 (gset t c) (outG I) := rfl
theorem pay5 : xferPay I c 5 t = pts c cc0_scratch5 (gset t (gpar t c)) (outG I) := rfl
end Pay

/-! ## A round of the reduce-scatter -/

/-- Device `c`'s share of the protocol in a round: its positions, the payments it makes, the credit it waits for. -/
def rsG (t : Fin 5) (c : Dev nD) : sProp 𝕄 :=
  iprop(atPos ER (dcell c 0 t) 0 ∅ 0 ∗ atPos ER (dcell c 1 t) 0 ∅ 0 ∗ atPos ER (dcell c 2 t) 0 ∅ 0 ∗ atPos ER (dcell c 3 t) 0 ∅ 0
    ∗ dutyTok ER (dcell c 0 t) 0 0 ∗ dutyTok ER (dcell (par t c) 1 t) 0 0 ∗ dutyTok ER (dcell c 2 t) 0 0 ∗ dutyTok ER (dcell (par t c) 3 t) 0 0
    ∗ cred (tallyAt (dcell c 1 t) () (amt 1 t)) ∗ cred (tallyAt (dcell c 3 t) () (amt 3 t)))
/-- Its four semaphores closed. -/
def rsZ (t : Fin 5) (c : Dev nD) : sProp 𝕄 :=
  iprop(semVal (dcell c 0 t) 0 ∗ semVal (dcell c 1 t) 0 ∗ semVal (dcell c 2 t) 0 ∗ semVal (dcell c 3 t) 0)

section Exchange
variable {I : Inp F} {c : Dev nD} {t : Fin 5}

section Views
variable {R : RoundAt (half t)} (A : R.At t c)
include A

theorem set_srcA : (srcA (Memref.whole cc0_scratch1) R).view.set = sentA t c := by
  refine (View.set_slice_whole cc0_scratch1 _).trans (Finset.ext fun z => ?_)
  rw [mem_sentA, Rect.mem_set_unit, A.oA]
  refine ⟨fun h => h 0, fun h a => ?_⟩
  match a with
  | ⟨0, _⟩ => exact h
  | ⟨1, _⟩ => exact ⟨Nat.zero_le _, by have : (z 1).val < 1024 := (z 1).isLt; show (z 1).val < 0 + 1024; omega⟩

theorem set_dstA : (dstA (Memref.whole cc0_scratch3) R).view.set = landA t := by
  refine (View.set_slice_whole cc0_scratch3 _).trans (Finset.ext fun z => ?_)
  rw [mem_landA, Rect.mem_set_unit, A.rx]
  refine ⟨fun h => h 0, fun h a => ?_⟩
  match a with
  | ⟨0, _⟩ => exact h
  | ⟨1, _⟩ => exact ⟨Nat.zero_le _, by have : (z 1).val < 1024 := (z 1).isLt; show (z 1).val < 0 + 1024; omega⟩

theorem set_srcS : (srcS (Memref.whole cc0_scratch2) R).view.set = sentS t c := by
  refine (View.set_slice_whole cc0_scratch2 _).trans (Finset.ext fun z => ?_)
  rw [mem_sentS, Rect.mem_set_unit, A.oS]
  refine ⟨fun h => h 1, fun h a => ?_⟩
  match a with
  | ⟨0, _⟩ => exact ⟨Nat.zero_le _, by have : (z 0).val < 2 := (z 0).isLt; show (z 0).val < 0 + 2; omega⟩
  | ⟨1, _⟩ => exact h
  | ⟨2, _⟩ => exact ⟨Nat.zero_le _, by have : (z 2).val < 8 := (z 2).isLt; show (z 2).val < 0 + 8; omega⟩

theorem set_dstS : (dstS (Memref.whole cc0_scratch4) R).view.set = landS t := by
  refine (View.set_slice_whole cc0_scratch4 _).trans (Finset.ext fun z => ?_)
  rw [mem_landS, Rect.mem_set_unit, A.rx]
  refine ⟨fun h => h 1, fun h a => ?_⟩
  match a with
  | ⟨0, _⟩ => exact ⟨Nat.zero_le _, by have : (z 0).val < 2 := (z 0).isLt; show (z 0).val < 0 + 2; omega⟩
  | ⟨1, _⟩ => exact h
  | ⟨2, _⟩ => exact ⟨Nat.zero_le _, by have : (z 2).val < 8 := (z 2).isLt; show (z 2).val < 0 + 8; omega⟩

/-- The accumulator's rows as they land. -/
theorem landed_A (fd : (cc0_scratch3 : Ref sig .tc).ty.Contents (Elt F)) (y : S512x1024.Idx) (hy : y ∈ landA t) :
    (dstA (Memref.whole cc0_scratch3) R).view.write (Elt F) fd ((srcA (Memref.whole cc0_scratch1) R).view.read (Elt F) (txOf (cont I t) c)) Finset.univ y
      = rxA I t (par t c) y := by
  have hy' := mem_landA.mp hy
  have h : ∀ a : Fin 2, (![R.rx, 0] : Fin 2 → ℕ) a ≤ (y a).val ∧ (y a).val < (![R.rx, 0] : Fin 2 → ℕ) a + (SR (half t)).size a := fun a => by
    rw [A.rx]
    match a with
    | ⟨0, _⟩ => exact hy'
    | ⟨1, _⟩ => exact ⟨Nat.zero_le _, by have : (y 1).val < 1024 := (y 1).isLt; show (y 1).val < 0 + 1024; omega⟩
  refine ((View.read_writes_cons_unit (Val := Elt F) (View.whole cc0_scratch3) fd R.jA _ [] y rfl).trans (dif_pos h)).trans ?_
  show txOf (cont I t) c _ = txOf (cont I t) (par t (par t c)) _
  rw [par_par]
  refine congrArg (txOf (cont I t) c) (funext fun a => Fin.ext ?_)
  have hk := keep_le t (par t c)
  match a with
  | ⟨0, _⟩ =>
    show R.oA 0 + 1 * ((y 0).val - R.rx) = (row (keepB t (par t c) + (y 0).val - rxo t)).val
    rw [row_of_lt (by omega), A.oA, A.rx]
    show keepB t (par t c) + 1 * ((y 0).val - rxo t) = _
    omega
  | ⟨1, _⟩ =>
    show R.oA 1 + 1 * ((y 1).val - 0) = (y 1).val
    rw [A.oA]
    show 0 + 1 * ((y 1).val - 0) = (y 1).val
    omega

/-- The statistics' rows as they land. -/
theorem landed_S (fd : (cc0_scratch4 : Ref sig .tc).ty.Contents (Elt F)) (y : S2x512x8.Idx) (hy : y ∈ landS t) :
    (dstS (Memref.whole cc0_scratch4) R).view.write (Elt F) fd ((srcS (Memref.whole cc0_scratch2) R).view.read (Elt F) ((cont I t).2 c)) Finset.univ y
      = rxS I t (par t c) y := by
  have hy' := mem_landS.mp hy
  have h : ∀ a : Fin 3, (![0, R.rx, 0] : Fin 3 → ℕ) a ≤ (y a).val ∧ (y a).val < (![0, R.rx, 0] : Fin 3 → ℕ) a + (ST (half t)).size a := fun a => by
    rw [A.rx]
    match a with
    | ⟨0, _⟩ => exact ⟨Nat.zero_le _, by have : (y 0).val < 2 := (y 0).isLt; show (y 0).val < 0 + 2; omega⟩
    | ⟨1, _⟩ => exact hy'
    | ⟨2, _⟩ => exact ⟨Nat.zero_le _, by have : (y 2).val < 8 := (y 2).isLt; show (y 2).val < 0 + 8; omega⟩
  refine ((View.read_writes_cons_unit (Val := Elt F) (View.whole cc0_scratch4) fd R.jS _ [] y rfl).trans (dif_pos h)).trans ?_
  show (cont I t).2 c _ = (cont I t).2 (par t (par t c)) _
  rw [par_par]
  refine congrArg ((cont I t).2 c) (funext fun a => Fin.ext ?_)
  have hk := keep_le t (par t c)
  match a with
  | ⟨0, _⟩ =>
    show R.oS 0 + 1 * ((y 0).val - 0) = (y 0).val
    rw [A.oS]
    show 0 + 1 * ((y 0).val - 0) = (y 0).val
    omega
  | ⟨1, _⟩ =>
    show R.oS 1 + 1 * ((y 1).val - R.rx) = (row (keepB t (par t c) + (y 1).val - rxo t)).val
    rw [row_of_lt (by omega), A.oS, A.rx]
    show keepB t (par t c) + 1 * ((y 1).val - rxo t) = _
    omega
  | ⟨2, _⟩ =>
    show R.oS 2 + 1 * ((y 2).val - 0) = (y 2).val
    rw [A.oS]
    show 0 + 1 * ((y 2).val - 0) = (y 2).val
    omega

end Views

/-- A round's exchange: the sent rows lent and returned, the partner's landed. -/
theorem wp_exch {n : ℕ} {R : RoundAt n} (A : R.At t c) (l : Pays) (hl : ∀ x ∈ l, 2 + t.val < lvS x.2.1) {Q : PUnit → sProp 𝕄} :
    iprop(know I ∗ owed c (payX t 1 t :: payX t 3 t :: l) ∗ rsG t c
        ∗ pts c cc0_scratch1 Finset.univ (txOf (cont I t) c) ∗ pts c cc0_scratch2 Finset.univ ((cont I t).2 c)
        ∗ (∃ f, pts (par t c) cc0_scratch3 (landA t) f) ∗ (∃ f, pts (par t c) cc0_scratch4 (landS t) f))
      ⊢ iprop(((owed c l ∗ rsZ t c
            ∗ pts c cc0_scratch1 Finset.univ (txOf (cont I t) c) ∗ pts c cc0_scratch2 Finset.univ ((cont I t).2 c)
            ∗ pts c cc0_scratch3 (landA t) (rxA I t c) ∗ pts c cc0_scratch4 (landS t) (rxS I t c)) -∗ Q ⟨⟩)
          -∗ WP c (exchProg (Memref.whole cc0_scratch1) (Memref.isWhole_whole _) (Memref.whole cc0_scratch2) (Memref.whole cc0_scratch3)
              (Memref.isWhole_whole _) (Memref.whole cc0_scratch4) cc0_scratch6 cc0_scratch7 cc0_scratch8 cc0_scratch9 R t) Q) := by
  obtain rfl : n = half t := A.n_eq
  have hlt : ∀ k : Fin 6, k.val < 4 → ∀ x ∈ l, lvS (.dma (xs k t)) < lvS x.2.1 := fun k hk x hx => lt_of_le_of_lt (lv_rs k t hk) (hl x hx)
  unfold exchProg
  simp only [Prog.lift, Prog.bind_op, Prog.bind_ret, Prog.pure_eq_ret]
  unfold rsG rsZ
  iintro ⟨#HK, HO, ⟨Ha0, Ha1, Ha2, Ha3, Ht0, Ht1, Ht2, Ht3, Hc1, Hc3⟩, HT, HS, ⟨%fA, HdA⟩, ⟨%fS, HdS⟩⟩ HQ
  ihave HT' := (pointsTo_split_subset (Finset.subset_univ (sentA t c))).1 $$ HT
  icases HT' with ⟨HT, HTr⟩
  ihave HS' := (pointsTo_split_subset (Finset.subset_univ (sentS t c))).1 $$ HS
  icases HS' with ⟨HS, HSr⟩
  iapply (wp_give I c 0 1 t t R.dA A.dA _ _ (sem6 t) (sem7 t) (payX t 3 t :: l) rfl rfl (txOf (cont I t) c) fA
      (by rw [set_srcA A]; exact BI.Entails.refl _)
      (by rw [set_dstA A]; exact Entails.of_eq (pointsTo_congr (landed_A A fA)))) $$ [HO Ht0 Ht1 HT HdA]
  · isplitr; · iexact HK
    isplitl [HO]; · iexact HO
    isplitl [Ht0]; · iexact Ht0
    isplitl [Ht1]; · iexact Ht1
    isplitl [HT]; · rw [set_srcA A]; iexact HT
    rw [set_dstA A]; iexact HdA
  iintro ⟨HO, Hc0⟩
  iapply (wp_give I c 2 3 t t R.dS A.dS _ _ (sem8 t) (sem9 t) l rfl rfl ((cont I t).2 c) fS
      (by rw [set_srcS A]; exact BI.Entails.refl _)
      (by rw [set_dstS A]; exact Entails.of_eq (pointsTo_congr (landed_S A fS)))) $$ [HO Ht2 Ht3 HS HdS]
  · isplitr; · iexact HK
    isplitl [HO]; · iexact HO
    isplitl [Ht2]; · iexact Ht2
    isplitl [Ht3]; · iexact Ht3
    isplitl [HS]; · rw [set_srcS A]; iexact HS
    rw [set_dstS A]; iexact HdS
  iintro ⟨HO, Hc2⟩
  iapply (wp_got I c 0 t _ (sem6 t) l (hlt 0 (by decide)) rfl) $$ [HO Ha0 Hc0]
  · isplitr; · iexact HK
    isplitl [HO]; · iexact HO
    isplitl [Ha0]; · iexact Ha0
    iexact Hc0
  iintro ⟨HO, Hz0, Hp⟩
  ihave HT := (Entails.of_eq (pay0 I c t)) $$ Hp
  iapply (wp_got I c 1 t _ (sem7 t) l (hlt 1 (by decide)) rfl) $$ [HO Ha1 Hc1]
  · isplitr; · iexact HK
    isplitl [HO]; · iexact HO
    isplitl [Ha1]; · iexact Ha1
    iexact Hc1
  iintro ⟨HO, Hz1, Hp⟩
  ihave HdA := (Entails.of_eq (pay1 I c t)) $$ Hp
  iapply (wp_got I c 2 t _ (sem8 t) l (hlt 2 (by decide)) rfl) $$ [HO Ha2 Hc2]
  · isplitr; · iexact HK
    isplitl [HO]; · iexact HO
    isplitl [Ha2]; · iexact Ha2
    iexact Hc2
  iintro ⟨HO, Hz2, Hp⟩
  ihave HS := (Entails.of_eq (pay2 I c t)) $$ Hp
  iapply (wp_got I c 3 t _ (sem9 t) l (hlt 3 (by decide)) rfl) $$ [HO Ha3 Hc3]
  · isplitr; · iexact HK
    isplitl [HO]; · iexact HO
    isplitl [Ha3]; · iexact Ha3
    iexact Hc3
  iintro ⟨HO, Hz3, Hp⟩
  ihave HdS := (Entails.of_eq (pay3 I c t)) $$ Hp
  iapply (wp_done c (α := PUnit) ⟨⟩)
  iapply HQ
  isplitl [HO]; · iexact HO
  isplitl [Hz0 Hz1 Hz2 Hz3]
  · isplitl [Hz0]; · iexact Hz0
    isplitl [Hz1]; · iexact Hz1
    isplitl [Hz2]; · iexact Hz2
    iexact Hz3
  isplitl [HT HTr]
  · iapply (pointsTo_split_subset (Finset.subset_univ (sentA t c))).2
    isplitl [HT]; · iexact HT
    iexact HTr
  isplitl [HS HSr]
  · iapply (pointsTo_split_subset (Finset.subset_univ (sentS t c))).2
    isplitl [HS]; · iexact HS
    iexact HSr
  isplitl [HdA]; · iexact HdA
  iexact HdS

/-- A mirrored round. -/
theorem wp_roundTx {n : ℕ} {R : RoundAt n} (A : R.At t c) (X : RoundTx R) (l : Pays) (hl : ∀ x ∈ l, 2 + t.val < lvS x.2.1) {Q : PUnit → sProp 𝕄} :
    iprop(know I ∗ owed c (payX t 1 t :: payX t 3 t :: l) ∗ rsG t c
        ∗ pts c cc0_scratch0 Finset.univ ((cont I t).1 c) ∗ pts c cc0_scratch1 Finset.univ (txOf (cont I t) c) ∗ pts c cc0_scratch2 Finset.univ ((cont I t).2 c)
        ∗ (∃ f, pts (par t c) cc0_scratch3 (landA t) f) ∗ (∃ f, pts (par t c) cc0_scratch4 (landS t) f))
      ⊢ iprop(((owed c l ∗ rsZ t c
            ∗ pts c cc0_scratch0 Finset.univ ((cont I (t.val + 1)).1 c) ∗ pts c cc0_scratch1 Finset.univ (txOf (cont I (t.val + 1)) c)
            ∗ pts c cc0_scratch2 Finset.univ ((cont I (t.val + 1)).2 c)
            ∗ (∃ f, pts c cc0_scratch3 (landA t) f) ∗ (∃ f, pts c cc0_scratch4 (landS t) f)) -∗ Q ⟨⟩)
          -∗ WP c (roundTx (Memref.whole cc0_scratch0) (Memref.whole cc0_scratch1) (Memref.isWhole_whole _) (Memref.whole cc0_scratch2) (Memref.whole cc0_scratch3)
              (Memref.isWhole_whole _) (Memref.whole cc0_scratch4) cc0_scratch6 cc0_scratch7 cc0_scratch8 cc0_scratch9 R X t) Q) := by
  unfold roundTx WP
  rw [wp_bind]
  iintro ⟨#HK, HO, HG, HA, HT, HS, HdA, HdS⟩ HQ
  iapply (wp_exch A l hl) $$ [HO HG HT HS HdA HdS]
  · isplitr; · iexact HK
    isplitl [HO]; · iexact HO
    isplitl [HG]; · iexact HG
    isplitl [HT]; · iexact HT
    isplitl [HS]; · iexact HS
    isplitl [HdA]; · iexact HdA
    iexact HdS
  iintro ⟨HO, HZ, HT, HS, HdA, HdS⟩
  iapply (wp_localTx A X) $$ [HA HT HS HdA HdS]
  · isplitl [HA]; · iexact HA
    isplitl [HT]; · iexact HT
    isplitl [HS]; · iexact HS
    isplitl [HdA]; · iexact HdA
    iexact HdS
  iintro ⟨HA, HT, HS, HdA, HdS⟩
  iapply HQ
  isplitl [HO]; · iexact HO
  isplitl [HZ]; · iexact HZ
  isplitl [HA]; · iexact HA
  isplitl [HT]; · iexact HT
  isplitl [HS]; · iexact HS
  isplitl [HdA]; · iexists _; iexact HdA
  iexists _; iexact HdS

/-- The last round. -/
theorem wp_roundLast {n : ℕ} {R : RoundAt n} (A : R.At t c) (l : Pays) (hl : ∀ x ∈ l, 2 + t.val < lvS x.2.1) {Q : PUnit → sProp 𝕄} :
    iprop(know I ∗ owed c (payX t 1 t :: payX t 3 t :: l) ∗ rsG t c
        ∗ pts c cc0_scratch0 Finset.univ ((cont I t).1 c) ∗ pts c cc0_scratch1 Finset.univ (txOf (cont I t) c) ∗ pts c cc0_scratch2 Finset.univ ((cont I t).2 c)
        ∗ (∃ f, pts (par t c) cc0_scratch3 (landA t) f) ∗ (∃ f, pts (par t c) cc0_scratch4 (landS t) f))
      ⊢ iprop(((owed c l ∗ rsZ t c
            ∗ pts c cc0_scratch0 Finset.univ ((cont I (t.val + 1)).1 c) ∗ pts c cc0_scratch1 Finset.univ (txOf (cont I t) c)
            ∗ pts c cc0_scratch2 Finset.univ ((cont I (t.val + 1)).2 c)
            ∗ (∃ f, pts c cc0_scratch3 (landA t) f) ∗ (∃ f, pts c cc0_scratch4 (landS t) f)) -∗ Q ⟨⟩)
          -∗ WP c (roundLast (Memref.whole cc0_scratch0) (Memref.whole cc0_scratch1) (Memref.isWhole_whole _) (Memref.whole cc0_scratch2) (Memref.whole cc0_scratch3)
              (Memref.isWhole_whole _) (Memref.whole cc0_scratch4) cc0_scratch6 cc0_scratch7 cc0_scratch8 cc0_scratch9 R t) Q) := by
  unfold roundLast WP
  rw [wp_bind]
  iintro ⟨#HK, HO, HG, HA, HT, HS, HdA, HdS⟩ HQ
  iapply (wp_exch A l hl) $$ [HO HG HT HS HdA HdS]
  · isplitr; · iexact HK
    isplitl [HO]; · iexact HO
    isplitl [HG]; · iexact HG
    isplitl [HT]; · iexact HT
    isplitl [HS]; · iexact HS
    isplitl [HdA]; · iexact HdA
    iexact HdS
  iintro ⟨HO, HZ, HT, HS, HdA, HdS⟩
  iapply (wp_localLast A) $$ [HA HS HdA HdS]
  · isplitl [HA]; · iexact HA
    isplitl [HS]; · iexact HS
    isplitl [HdA]; · iexact HdA
    iexact HdS
  iintro ⟨HA, HS, HdA, HdS⟩
  iapply HQ
  isplitl [HO]; · iexact HO
  isplitl [HZ]; · iexact HZ
  isplitl [HA]; · iexact HA
  isplitl [HT]; · iexact HT
  isplitl [HS]; · iexact HS
  isplitl [HdA]; · iexists _; iexact HdA
  iexists _; iexact HdS

end Exchange

/-! ## A round of the all-gather -/

/-- Device `c`'s share of the protocol in a round of the all-gather. -/
def agG (t : Fin 5) (c : Dev nD) : sProp 𝕄 :=
  iprop(atPos ER (dcell c 4 t) 0 ∅ 0 ∗ atPos ER (dcell c 5 t) 0 ∅ 0
    ∗ dutyTok ER (dcell c 4 t) 0 0 ∗ dutyTok ER (dcell (par (Fin.rev t) c) 5 t) 0 0 ∗ cred (tallyAt (dcell c 5 t) () (amt 5 t)))
/-- Its two semaphores closed. -/
def agZ (t : Fin 5) (c : Dev nD) : sProp 𝕄 := iprop(semVal (dcell c 4 t) 0 ∗ semVal (dcell c 5 t) 0)

theorem gbase_next : ∀ (t : Fin 5) (c : Dev nD),
    (gbase t (gpar t c) = gbase t c + 16 * 2 ^ t.val ∧ gbase (t.val + 1) c = gbase t c)
      ∨ (gbase t (gpar t c) + 16 * 2 ^ t.val = gbase t c ∧ gbase (t.val + 1) c = gbase t (gpar t c)) := by decide +kernel
theorem gbase_le : ∀ (t : Fin 5) (c : Dev nD), gbase t c + 16 * 2 ^ t.val ≤ 512 := by decide +kernel
theorem gpar_gpar (t : Fin 5) (c : Dev nD) : gpar t (gpar t c) = c := par_par _ c

/-- The rows held after a round are those held before and the partner's. -/
theorem gset_succ (t : Fin 5) (c : Dev nD) : gset (t.val + 1) c = gset t c ∪ gset t (gpar t c) := by
  ext z
  rw [Finset.mem_union, mem_gset, mem_gset, mem_gset]
  have h := gbase_next t c
  have e : (2 : ℕ) ^ (t.val + 1) = 2 ^ t.val * 2 := pow_succ 2 t.val
  generalize gbase t (gpar t c) = a at *
  generalize gbase (t.val + 1) c = b at *
  generalize (2 : ℕ) ^ t.val = w at *
  rw [e]
  constructor
  · rintro ⟨h1, h2⟩
    by_cases hh : gbase t c ≤ (z 0).val ∧ (z 0).val < gbase t c + 16 * w
    · exact Or.inl hh
    · exact Or.inr ⟨by omega, by omega⟩
  · rintro (⟨h1, h2⟩ | ⟨h1, h2⟩)
    · exact ⟨by omega, by omega⟩
    · exact ⟨by omega, by omega⟩
theorem gset_disj (t : Fin 5) (c : Dev nD) : Disjoint (gset t c) (gset t (gpar t c)) := by
  rw [Finset.disjoint_left]
  intro z h1 h2
  rw [mem_gset] at h1 h2
  have h := gbase_next t c
  obtain ⟨h1, h1'⟩ := h1
  obtain ⟨h2, h2'⟩ := h2
  omega

section Gather
variable {I : Inp F} {c : Dev nD} {t : Fin 5}

section Views
variable {G : GatherAt (16 * 2 ^ t.val)} (A : G.At t c)
include A

theorem set_agM : (agM (Memref.whole cc0_scratch5) G).view.set = gset t c := by
  refine (View.set_slice_whole cc0_scratch5 _).trans (Finset.ext fun z => ?_)
  rw [mem_gset, Rect.mem_set_unit, A.o]
  refine ⟨fun h => h 0, fun h a => ?_⟩
  match a with
  | ⟨0, _⟩ => exact h
  | ⟨1, _⟩ => exact ⟨Nat.zero_le _, by have : (z 1).val < 1024 := (z 1).isLt; show (z 1).val < 0 + 1024; omega⟩

/-- The gathered rows as they land: where they were. -/
theorem landed_G (fd g : (cc0_scratch5 : Ref sig .tc).ty.Contents (Elt F)) (y : S512x1024.Idx) (hy : y ∈ gset t c) :
    (agM (Memref.whole cc0_scratch5) G).view.write (Elt F) fd ((agM (Memref.whole cc0_scratch5) G).view.read (Elt F) g) Finset.univ y = g y := by
  have hy' := mem_gset.mp hy
  have h : ∀ a : Fin 2, G.o a ≤ (y a).val ∧ (y a).val < G.o a + (SR (16 * 2 ^ t.val)).size a := fun a => by
    rw [A.o]
    match a with
    | ⟨0, _⟩ => exact hy'
    | ⟨1, _⟩ => exact ⟨Nat.zero_le _, by have : (y 1).val < 1024 := (y 1).isLt; show (y 1).val < 0 + 1024; omega⟩
  refine ((View.read_writes_cons_unit (Val := Elt F) (View.whole cc0_scratch5) fd G.i _ [] y rfl).trans (dif_pos h)).trans ?_
  refine congrArg g (funext fun a => Fin.ext ?_)
  show G.o a + 1 * ((y a).val - G.o a) = (y a).val
  have := (h a).1
  omega

end Views

/-- An all-gather round: the rows held sent, the partner's landed beside them. -/
theorem wp_gather {n : ℕ} {G : GatherAt n} (A : G.At t c) (l : Pays) (hl : ∀ x ∈ l, 10 + t.val < lvS x.2.1) {Q : PUnit → sProp 𝕄} :
    iprop(know I ∗ owed c (payX (Fin.rev t) 5 t :: l) ∗ agG t c
        ∗ pts c cc0_scratch5 (gset t c) (outG I) ∗ (∃ f, pts (par (Fin.rev t) c) cc0_scratch5 (gset t c) f))
      ⊢ iprop(((owed c l ∗ agZ t c ∗ pts c cc0_scratch5 (gset (t.val + 1) c) (outG I)) -∗ Q ⟨⟩)
          -∗ WP c (agProg (Memref.whole cc0_scratch5) (Memref.isWhole_whole _) cc0_scratch10 cc0_scratch11 G t) Q) := by
  obtain rfl : n = 16 * 2 ^ t.val := A.n_eq
  have hlt : ∀ k : Fin 6, 4 ≤ k.val → ∀ x ∈ l, lvS (.dma (xs k t)) < lvS x.2.1 := fun k hk x hx => lt_of_le_of_lt (lv_ag k t hk) (hl x hx)
  unfold agProg
  simp only [Prog.lift, Prog.bind_op, Prog.bind_ret, Prog.pure_eq_ret]
  unfold agG agZ
  iintro ⟨#HK, HO, ⟨Ha4, Ha5, Ht4, Ht5, Hc5⟩, HG, ⟨%f, Hd⟩⟩ HQ
  iapply (wp_give I c 4 5 (Fin.rev t) t G.d A.d _ _ (sem10 t) (sem11 t) l rfl rfl (outG I) f
      (by rw [set_agM A]; exact BI.Entails.refl _)
      (by
        rw [set_agM A]
        show _ ⊢ pts (par (Fin.rev t) c) cc0_scratch5 (gset t (gpar t (gpar t c))) (outG I)
        rw [gpar_gpar]
        exact Entails.of_eq (pointsTo_congr (landed_G A f (outG I))))) $$ [HO Ht4 Ht5 HG Hd]
  · isplitr; · iexact HK
    isplitl [HO]; · iexact HO
    isplitl [Ht4]; · iexact Ht4
    isplitl [Ht5]; · iexact Ht5
    isplitl [HG]; · rw [set_agM A]; iexact HG
    rw [set_agM A]; iexact Hd
  iintro ⟨HO, Hc4⟩
  iapply (wp_got I c 4 t _ (sem10 t) l (hlt 4 (by decide)) rfl) $$ [HO Ha4 Hc4]
  · isplitr; · iexact HK
    isplitl [HO]; · iexact HO
    isplitl [Ha4]; · iexact Ha4
    iexact Hc4
  iintro ⟨HO, Hz4, Hp⟩
  ihave HG := (Entails.of_eq (pay4 I c t)) $$ Hp
  iapply (wp_got I c 5 t _ (sem11 t) l (hlt 5 (by decide)) rfl) $$ [HO Ha5 Hc5]
  · isplitr; · iexact HK
    isplitl [HO]; · iexact HO
    isplitl [Ha5]; · iexact Ha5
    iexact Hc5
  iintro ⟨HO, Hz5, Hp⟩
  ihave HN := (Entails.of_eq (pay5 I c t)) $$ Hp
  iapply (wp_done c (α := PUnit) ⟨⟩)
  iapply HQ
  isplitl [HO]; · iexact HO
  isplitl [Hz4 Hz5]
  · isplitl [Hz4]; · iexact Hz4
    iexact Hz5
  rw [gset_succ]
  iapply (pointsTo_union (gset_disj t c)).2
  isplitl [HG]; · iexact HG
  iexact HN

end Gather

end Cert.KernelIdeal.K

end
-- ==== Proof.KernelIdeal.Local.lean ====
/-
  The stages without transfers that remain — the query, the finished rows, the output — the barriers, and the body run from
  its start to its end on any device.
-/
module

public import proofs.«01_k».proof.Proof.KernelIdeal.Exch

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Whole loads and stores -/

/-- A store of a rectangle of a whole buffer of which the elements `S` are held. -/
theorem wp_stR (c : Dev nD) {cs : CoreSpace} (i : Fin (sig.nNear .tc cs)) (hκ : sig.names .tc cs i = true)
    {off size : Fin (sig.tyNear .tc cs i).shape.rank → ℕ} {inb : ∀ a, off a + size a ≤ (sig.tyNear .tc cs i).shape.size a}
    {w : (Rect.unit off size inb).shape.Idx → Elt F (sig.tyNear .tc cs i).elt}
    {hx : ((Memref.whole ⟨cs, i, hκ⟩ : Memref sig .tc _ _ _).access (Rect.unit off size inb)).Stores Finset.univ} {hm}
    {α : Type} {Q : α → sProp 𝕄} {k : PUnit → Prog (BE F) α} (S : Finset (sig.tyNear .tc cs i).shape.Idx)
    (f g : (sig.tyNear .tc cs i).Contents (Elt F))
    (hS : (Rect.unit off size inb).set ⊆ S)
    (hg : ∀ y ∈ S, g y = if h : ∀ a, off a ≤ (y a).val ∧ (y a).val < off a + size a then
      w (Rect.unitLocal (s := (sig.tyNear .tc cs i).shape) (off := off) (size := size) y h) else f y) :
    (pts c ⟨cs, i, hκ⟩ S f)
      ⊢ iprop(((pts c ⟨cs, i, hκ⟩ S g) -∗ WP c (k ⟨⟩) Q)
          -∗ WP c (.op (.store (Memref.whole ⟨cs, i, hκ⟩) (Rect.unit off size inb) w Finset.univ hx hm) k) Q) := by
  have e : (pts c ⟨cs, i, hκ⟩ S g : sProp 𝕄) = pts c ⟨cs, i, hκ⟩ S (((Memref.whole ⟨cs, i, hκ⟩ : Memref sig .tc _ _ _).access (Rect.unit off size inb)).write (Elt F) f w Finset.univ) :=
    pointsTo_congr fun y hy => (hg y hy).trans (View.read_writes_cons_unit (Val := Elt F) (View.whole ⟨cs, i, hκ⟩) f inb w [] y rfl).symm
  rw [e]
  refine wp_store 𝒱₀ (c : Thread nD τ) none Set.univ (m := Memref.whole ⟨cs, i, hκ⟩) (hx := hx) (S := S) (f := f) ?_
  exact (View.set_slice_whole (⟨cs, i, hκ⟩ : Ref sig .tc) (Rect.unit off size inb)).le.trans hS

/-- A load of a whole value reads it. -/
theorem idx_whole {s : Shape} {o : Fin s.rank → ℕ} (ho : ∀ a, o a = 0) (i : ∀ a, o a + s.size a ≤ s.size a) (x : s.Idx) :
    (Rect.unit (s := s) o s.size i).toLoadRect.idx x = x :=
  funext fun a => Fin.ext (by show o a + 1 * (x a).val = (x a).val; rw [ho a]; omega)

theorem z2 : ∀ a, (![0, 0] : Fin 2 → ℕ) a = 0 := by decide
theorem z3 : ∀ a, (![0, 0, 0] : Fin 3 → ℕ) a = 0 := by decide

/-! ## The query -/

/-- The query read. -/
theorem wp_q (c : Dev nD) (x : Vec F S1x512x1024 .bf16) (wq : Vec F S1024x1024 .bf16) {Q : FVec F S512x1024 .f32 → sProp 𝕄} :
    iprop(pts c cc0_stg0_0 Finset.univ x ∗ pts c cc0_stg1_0 Finset.univ wq)
      ⊢ iprop(((pts c cc0_stg0_0 Finset.univ x ∗ pts c cc0_stg1_0 Finset.univ wq) -∗ Q (qOf x wq))
          -∗ WP c (qProg (Memref.whole cc0_stg0_0) (Memref.whole cc0_stg1_0)) Q) := by
  have e1 : (fun y => x ((Rect.unit (s := S1x512x1024) ![0, 0, 0] S1x512x1024.size inb_S1x512x1024_S1x512x1024_0_0_0).toLoadRect.idx y) : Vec F S1x512x1024 .bf16) = x :=
    funext fun y => congrArg x (idx_whole (s := S1x512x1024) z3 _ y)
  have e2 : (fun y => wq ((Rect.unit (s := S1024x1024) ![0, 0] S1024x1024.size inb_S1024x1024_S1024x1024_0_0).toLoadRect.idx y) : Vec F S1024x1024 .bf16) = wq :=
    funext fun y => congrArg wq (idx_whole (s := S1024x1024) z2 _ y)
  unfold qProg
  simp only [Prog.lift, Prog.bind_op, Prog.bind_ret, Prog.pure_eq_ret]
  iintro ⟨Hx, Hw⟩ HQ
  iapply (wp_ld c (cs := .vmem) 0 rfl Finset.univ x (fun _ => Finset.mem_univ _)) $$ Hx; iintro Hx
  iapply (wp_ld c (cs := .vmem) 1 rfl Finset.univ wq (fun _ => Finset.mem_univ _)) $$ Hw; iintro Hw
  iapply (wp_done c (α := FVec F S512x1024 .f32) (qOf (fun y => x ((Rect.unit (s := S1x512x1024) ![0, 0, 0] S1x512x1024.size inb_S1x512x1024_S1x512x1024_0_0_0).toLoadRect.idx y))
    (fun y => wq ((Rect.unit (s := S1024x1024) ![0, 0] S1024x1024.size inb_S1024x1024_S1024x1024_0_0).toLoadRect.idx y))))
  iapply (Entails.of_eq (congrArg Q (congr (congrArg qOf e1) e2)).symm)
  iapply HQ
  isplitl [Hx]; · iexact Hx
  iexact Hw

/-! ## The rows finished -/

theorem gset_zero {c : Dev nD} {z : S512x1024.Idx} : z ∈ gset 0 c ↔ In (16 * c.val) 16 (z 0).val := by
  rw [mem_gset]
  have : gbase 0 c = 16 * c.val := by unfold gbase; rw [pow_zero, Nat.div_one, mul_one, mul_comm]
  rw [this, pow_zero, mul_one]

/-- A device's own rows of the result. -/
theorem wp_fin (I : Inp F) (c : Dev nD) (f : S512x1024.Idx → F .bf16) {Q : PUnit → sProp 𝕄} :
    iprop(pts c cc0_stg2_0 Finset.univ (I.wo c) ∗ pts c cc0_scratch0 Finset.univ ((cont I 5).1 c) ∗ pts c cc0_scratch2 Finset.univ ((cont I 5).2 c)
        ∗ pts c cc0_scratch5 (gset 0 c) f)
      ⊢ iprop(((pts c cc0_stg2_0 Finset.univ (I.wo c) ∗ pts c cc0_scratch0 Finset.univ ((cont I 5).1 c) ∗ pts c cc0_scratch2 Finset.univ ((cont I 5).2 c)
            ∗ pts c cc0_scratch5 (gset 0 c) (outG I)) -∗ Q ⟨⟩)
          -∗ WP c (finProg (Memref.whole cc0_stg2_0) (Memref.whole cc0_scratch0) (Memref.whole cc0_scratch2) (Memref.whole cc0_scratch5) (Memref.isWhole_whole _) c) Q) := by
  have hc : c.val < 32 := c.isLt
  have iff : ∀ y : S512x1024.Idx, (∀ a : Fin 2, k0_off61 c a ≤ (y a).val ∧ (y a).val < k0_off61 c a + S16x1024.size a) ↔ y ∈ gset 0 c := fun y => by
    rw [gset_zero, fin_off61]
    refine ⟨fun h => h 0, fun h a => ?_⟩
    match a with
    | ⟨0, _⟩ => exact h
    | ⟨1, _⟩ => exact ⟨Nat.zero_le _, by have : (y 1).val < 1024 := (y 1).isLt; show (y 1).val < 0 + 1024; omega⟩
  have eA : (fun x => (cont I 5).1 c ((Rect.unit (s := S512x1024) (k0_off61 c) S16x1024.size (k0_off61_inb c)).toLoadRect.idx x)) = finA I c := by
    refine funext fun x => congrArg ((cont I 5).1 c) (funext fun a => Fin.ext ?_)
    have hx : (x 0).val < 16 := (x 0).isLt
    match a with
    | ⟨0, _⟩ =>
      show k0_off61 c 0 + 1 * (x 0).val = (row (16 * c.val + (x 0).val)).val
      rw [row_of_lt (by omega), congrFun (fin_off61 c) 0]
      show 16 * c.val + 1 * (x 0).val = _
      omega
    | ⟨1, _⟩ =>
      show k0_off61 c 1 + 1 * (x 1).val = (x 1).val
      rw [congrFun (fin_off61 c) 1]
      show 0 + 1 * (x 1).val = _
      omega
  have eL : (fun x => (cont I 5).2 c ((Rect.unit (s := S2x512x8) (k0_off52 c) S1x16x8.size (k0_off52_inb c)).toLoadRect.idx x)) = finL I c := by
    refine funext fun x => congrArg ((cont I 5).2 c) (funext fun a => Fin.ext ?_)
    have hx : (x 1).val < 16 := (x 1).isLt
    have hx0 : (x 0).val < 1 := (x 0).isLt
    match a with
    | ⟨0, _⟩ =>
      show k0_off52 c 0 + 1 * (x 0).val = 1
      rw [congrFun (fin_off52 c) 0]
      show 1 + 1 * (x 0).val = 1
      omega
    | ⟨1, _⟩ =>
      show k0_off52 c 1 + 1 * (x 1).val = (row (16 * c.val + (x 1).val)).val
      rw [row_of_lt (by omega), congrFun (fin_off52 c) 1]
      show 16 * c.val + 1 * (x 1).val = _
      omega
    | ⟨2, _⟩ =>
      show k0_off52 c 2 + 1 * (x 2).val = (x 2).val
      rw [congrFun (fin_off52 c) 2]
      show 0 + 1 * (x 2).val = _
      omega
  have eW : (fun y => I.wo c ((Rect.unit (s := S1024x1024) ![0, 0] S1024x1024.size inb_S1024x1024_S1024x1024_0_0).toLoadRect.idx y)) = I.wo c :=
    funext fun y => congrArg (I.wo c) (idx_whole (s := S1024x1024) z2 _ y)
  unfold finProg
  simp only [Prog.lift, Prog.bind_op, Prog.bind_ret, Prog.pure_eq_ret]
  iintro ⟨HW, HA, HS, HG⟩ HQ
  iapply (wp_ld c (cs := .vmem) 6 rfl Finset.univ ((cont I 5).1 c) (fun _ => Finset.mem_univ _)) $$ HA; iintro HA
  iapply (wp_ld c (cs := .vmem) 8 rfl Finset.univ ((cont I 5).2 c) (fun _ => Finset.mem_univ _)) $$ HS; iintro HS
  iapply (wp_ld c (cs := .vmem) 2 rfl Finset.univ (I.wo c) (fun _ => Finset.mem_univ _)) $$ HW; iintro HW
  iapply (wp_ld c (cs := .vmem) 11 rfl (gset 0 c) f (fun x => (iff _).mp fun a => ⟨Nat.le_add_right _ _, by
    have := (x a).isLt
    show k0_off61 c a + 1 * (x a).val < k0_off61 c a + S16x1024.size a
    have : (x a).val < S16x1024.size a := (x a).isLt
    omega⟩)) $$ HG; iintro HG
  iapply (wp_stR c (cs := .vmem) 11 rfl (gset 0 c) f (outG I) (fun y hy => (iff y).mp ((Rect.mem_set_unit).mp hy)) (fun y hy => by
    refine Eq.trans ?_ (dif_pos ((iff y).mpr hy)).symm
    have hy' := gset_zero.mp hy
    have ho : own (y 0) = c := Fin.ext (by show (y 0).val / 16 = c.val; omega)
    show finPay (finA I (own (y 0))) (finL I (own (y 0))) (I.wo (own (y 0))) _ = finPay _ _ _ _
    rw [ho, ← eA, ← eL]
    refine congr (congrArg (finPay _ _) eW.symm) (funext fun a => Fin.ext ?_)
    match a with
    | ⟨0, _⟩ =>
      show (y 0).val % 16 = (y 0).val - k0_off61 c 0
      rw [fin_off61]
      show (y 0).val % 16 = (y 0).val - 16 * c.val
      omega
    | ⟨1, _⟩ =>
      show (y 1).val = (y 1).val - k0_off61 c 1
      rw [fin_off61]
      rfl)) $$ HG; iintro HG
  iapply (wp_done c (α := PUnit) ⟨⟩)
  iapply HQ
  isplitl [HW]; · iexact HW
  isplitl [HA]; · iexact HA
  isplitl [HS]; · iexact HS
  iexact HG

/-! ## The output -/

/-- The result as the kernel writes it. -/
def outV (I : Inp F) : Vec F S1x512x1024 .f32 := k0_pay245 (outG I)

/-- The gathered rows written out. -/
theorem wp_out (I : Inp F) (c : Dev nD) (f : Vec F S1x512x1024 .f32) {Q : PUnit → sProp 𝕄} :
    iprop(pts c cc0_scratch5 Finset.univ (outG I) ∗ pts c cc0_stg5_0 Finset.univ f)
      ⊢ iprop(((pts c cc0_scratch5 Finset.univ (outG I) ∗ pts c cc0_stg5_0 Finset.univ (outV I)) -∗ Q ⟨⟩)
          -∗ WP c (outProg (Memref.whole cc0_stg5_0) (Memref.whole cc0_scratch5)) Q) := by
  have e1 : (fun y => outG I ((Rect.unit (s := S512x1024) ![0, 0] S512x1024.size inb_S512x1024_S512x1024_0_0).toLoadRect.idx y)) = outG I :=
    funext fun y => congrArg (outG I) (idx_whole (s := S512x1024) z2 _ y)
  have hall : ∀ y : S1x512x1024.Idx, ∀ a : Fin 3, (![0, 0, 0] : Fin 3 → ℕ) a ≤ (y a).val ∧ (y a).val < (![0, 0, 0] : Fin 3 → ℕ) a + S1x512x1024.size a :=
    fun y a => by rw [z3 a]; exact ⟨Nat.zero_le _, by rw [Nat.zero_add]; exact (y a).isLt⟩
  unfold outProg
  simp only [Prog.lift, Prog.bind_op, Prog.bind_ret, Prog.pure_eq_ret]
  iintro ⟨HG, Ho⟩ HQ
  iapply (wp_ld c (cs := .vmem) 11 rfl Finset.univ (outG I) (fun _ => Finset.mem_univ _)) $$ HG; iintro HG
  iapply (wp_ld c (cs := .vmem) 5 rfl Finset.univ f (fun _ => Finset.mem_univ _)) $$ Ho; iintro Ho
  iapply (wp_st c (cs := .vmem) 5 rfl f (outV I) (fun y => by
    refine Eq.trans ?_ (dif_pos (hall y)).symm
    unfold outV
    refine congr (congrArg k0_pay245 e1.symm) (funext fun a => Fin.ext ?_)
    show (y a).val = (y a).val - (![0, 0, 0] : Fin 3 → ℕ) a
    rw [z3 a, Nat.sub_zero])) $$ Ho; iintro Ho
  iapply (wp_done c (α := PUnit) ⟨⟩)
  iapply HQ
  isplitl [HG]; · iexact HG
  iexact Ho

/-! ## The barriers -/

/-- What signalling the listed partners takes: their semaphores' tokens and what is handed over. -/
def sigRes (I : Inp F) (s : Sem sig) (c : Dev nD) : List (Fin 5) → sProp 𝕄
  | [] => iprop(emp)
  | d :: ds => iprop((dutyTok ER (rcell (gpar d c) s) 0 d ∗ payOf I (gpar d c) (.reg s) d) ∗ sigRes I s c ds)

/-- The listed partners signalled. -/
theorem wp_sigs (I : Inp F) (s : Sem sig) (c : Dev nD) (l : Pays) {Q : PUnit → sProp 𝕄} : ∀ ds : List (Fin 5),
    iprop(know I ∗ owed c (ds.map (payR s) ++ l) ∗ sigRes I s c ds)
      ⊢ iprop((owed c l -∗ Q ⟨⟩) -∗ WP c (sigProg s (ds.map fun d => gpar d c)) Q)
  | [] => by
    simp only [List.map_nil, List.nil_append, sigProg, Prog.pure_eq_ret]
    iintro ⟨-, HO, -⟩ HQ
    iapply (wp_done c (α := PUnit) ⟨⟩)
    iapply HQ
    iexact HO
  | d :: ds => by
    simp only [List.map_cons, List.cons_append, sigProg, semSignalWord, Prog.lift, Prog.bind_op, Prog.bind_ret, sigRes]
    iintro ⟨#HK, HO, ⟨Ht, Hp⟩, HR⟩ HQ
    iapply (wp_sig I c s d (gpar d c) rfl (ds.map (payR s) ++ l)) $$ [HO Ht Hp]
    · isplitr; · iexact HK
      isplitl [HO]; · iexact HO
      isplitl [Ht]; · iexact Ht
      iexact Hp
    iintro HO
    iapply (wp_sigs I s c l ds) $$ [HO HR]
    · isplitr; · iexact HK
      isplitl [HO]; · iexact HO
      iexact HR
    iexact HQ

/-- What device `c` lends at the opening barrier, per round of the reduce-scatter, as its partner gets it. -/
theorem lend_at (c : Dev nD) (d t : Fin 5) (h : t = Fin.rev d) :
    (lend (gpar d c) d : sProp 𝕄) = iprop((∃ f, pts (par t c) cc0_scratch3 (landA t) f) ∗ (∃ f, pts (par t c) cc0_scratch4 (landS t) f)
      ∗ (∃ f, pts (par (Fin.rev d) c) cc0_scratch5 (gset d c) f)) := by
  subst h
  unfold lend
  rw [gpar_gpar]
  rfl

/-! ## Buffers cut into the regions lent -/

/-- A buffer cut into five separate regions and the rest. -/
theorem cut5 (c : Dev nD) (b : Ref sig .tc) (K : Fin 5 → Finset b.ty.Idx) (hK : ∀ t t', t ≠ t' → Disjoint (K t) (K t')) :
    (∃ f, pts c b Finset.univ f : sProp 𝕄)
      ⊢ iprop((bigSep Finset.univ fun t => iprop(∃ f, pts c b (K t) f)) ∗ ∃ f, pts c b (Finset.univ \ Finset.univ.biUnion K) f) := by
  iintro ⟨%f, H⟩
  ihave H := (pointsTo_split_subset (Finset.subset_univ (Finset.univ.biUnion K))).1 $$ H
  icases H with ⟨H, Hr⟩
  isplitl [H]
  · ihave H := (Entails.of_eq (pointsTo_biUnion Finset.univ K (fun t _ t' _ => hK t t'))) $$ H
    have h : ∀ t ∈ (Finset.univ : Finset (Fin 5)), (pts c b (K t) f : sProp 𝕄) ⊢ iprop(∃ f, pts c b (K t) f) := fun t _ => by
      iintro H; iexists f; iexact H
    have h' : (bigSep Finset.univ fun t => pts c b (K t) f : sProp 𝕄) ⊢ bigSep Finset.univ fun t => iprop(∃ f, pts c b (K t) f) := BI.bigSep_mono h
    iapply h' $$ H
  · iexists f; iexact Hr

/-- The five regions and the rest put together. -/
theorem join5 (c : Dev nD) (b : Ref sig .tc) (K : Fin 5 → Finset b.ty.Idx) (hK : ∀ t t', t ≠ t' → Disjoint (K t) (K t')) (f₀ : b.ty.Contents (Elt F)) :
    iprop((bigSep Finset.univ fun t => iprop(∃ f, pts c b (K t) f)) ∗ ∃ f, pts c b (Finset.univ \ Finset.univ.biUnion K) f)
      ⊢ (∃ f, pts c b Finset.univ f : sProp 𝕄) := by
  have : Nonempty (b.ty.Contents (Elt F)) := ⟨f₀⟩
  iintro ⟨H, ⟨%f, Hr⟩⟩
  ihave H := (BI.bigSep_exists_pi Finset.univ (fun (t : Fin 5) (f : b.ty.Contents (Elt F)) => (pts c b (K t) f : sProp 𝕄))) $$ H
  icases H with ⟨%fs, H⟩
  ihave H := (pointsTo_biUnion_join Finset.univ K fs f₀ (fun t _ t' _ => hK t t')) $$ H
  icases H with ⟨%g, -, H⟩
  iexists _
  iapply (pointsTo_join_subset (Finset.subset_univ (Finset.univ.biUnion K)))
  isplitl [H]; · iexact H
  iexact Hr

theorem rxo_sep : ∀ t t' : Fin 5, t ≠ t' → rxo t + half t ≤ rxo t' ∨ rxo t' + half t' ≤ rxo t := by decide
theorem landA_disj (t t' : Fin 5) (h : t ≠ t') : Disjoint (landA t) (landA t') := by
  rw [Finset.disjoint_left]
  intro z h1 h2
  rw [mem_landA] at h1 h2
  have := rxo_sep t t' h
  obtain ⟨_, _⟩ := h1
  obtain ⟨_, _⟩ := h2
  omega
theorem landS_disj (t t' : Fin 5) (h : t ≠ t') : Disjoint (landS t) (landS t') := by
  rw [Finset.disjoint_left]
  intro z h1 h2
  rw [mem_landS] at h1 h2
  have := rxo_sep t t' h
  obtain ⟨_, _⟩ := h1
  obtain ⟨_, _⟩ := h2
  omega

theorem gset_five (c : Dev nD) : gset 5 c = Finset.univ := by
  ext z
  rw [mem_gset]
  have hb : gbase 5 c = 0 := by
    unfold gbase
    have : c.val < 32 := c.isLt
    rw [Nat.div_eq_of_lt (by norm_num), zero_mul]
  have : (z 0).val < 512 := (z 0).isLt
  rw [hb]
  exact ⟨fun _ => Finset.mem_univ _, fun _ => ⟨Nat.zero_le _, by norm_num; exact this⟩⟩

/-- The rows held after a round cut into those before and the partner's. -/
theorem cut_gset (t : Fin 5) (c : Dev nD) (f : S512x1024.Idx → F .bf16) (n m : ℕ) (hn : n = t.val + 1) (hm : m = t.val) :
    (pts c cc0_scratch5 (gset n c) f : sProp 𝕄) ⊢ iprop(pts c cc0_scratch5 (gset m c) f ∗ pts c cc0_scratch5 (gset t (gpar t c)) f) := by
  subst hn hm
  rw [gset_succ]
  exact (pointsTo_union (gset_disj t c)).1

end Cert.KernelIdeal.K

end
-- ==== Proof.KernelIdeal.Body.lean ====
/-
  The body run from its start to its end on any device.
-/
module

public import proofs.«01_k».proof.Proof.KernelIdeal.Local

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The barriers' two sides -/

/-- Device `c`'s share of the protocol at a barrier. -/
def regG (s : Sem sig) (c : Dev nD) : sProp 𝕄 :=
  iprop(atPos ER (rcell c s) 0 ∅ 0 ∗ (bigSep Finset.univ fun d : Fin 5 => dutyTok ER (rcell (gpar d c) s) 0 d) ∗ cred (tallyAt (rcell c s) () 5))

/-- The five partners. -/
abbrev fives : List (Fin 5) := [0, 1, 2, 3, 4]

/-- What is lent is what the opening signal hands over. -/
theorem pay_open (I : Inp F) (c : Dev nD) (d : Fin 5) : payOf I (gpar d c) (.reg 0) d = lend c d := by
  show (if (0 : Sem sig) = 0 then lend (gpar d (gpar d c)) d else iprop(emp)) = _
  rw [if_pos rfl, gpar_gpar]
theorem pay_open' (I : Inp F) (c : Dev nD) (d : Fin 5) : payOf I c (.reg 0) d = lend (gpar d c) d := by
  show (if (0 : Sem sig) = 0 then lend (gpar d c) d else iprop(emp)) = _
  rw [if_pos rfl]
theorem pay_end (I : Inp F) (c : Dev nD) (d : Fin 5) : payOf I c (.reg 1) d = iprop(emp) := by
  show (if (1 : Sem sig) = 0 then lend (gpar d c) d else iprop(emp)) = _
  rw [if_neg (by decide)]

/-- A barrier: all partners signalled, all waited for. -/
theorem wp_meet (I : Inp F) (s : Sem sig) (c : Dev nD) (l : Pays) (hl : ∀ x ∈ l, lvS (.reg s) < lvS x.2.1)
    {Q : PUnit → sProp 𝕄} :
    iprop(know I ∗ owed c (fives.map (payR s) ++ l) ∗ regG s c ∗ bigSep Finset.univ fun d : Fin 5 => payOf I (gpar d c) (.reg s) d)
      ⊢ iprop(((owed c l ∗ semVal (rcell c s) 0 ∗ bigSep Finset.univ fun d => payOf I c (.reg s) d) -∗ Q ⟨⟩)
          -∗ WP c (sigProg s (fives.map fun d => gpar d c)) fun _ => WP c (.op (.semWait s 5) .ret) Q) := by
  unfold regG
  rw [bigSep_fin5, bigSep_fin5 (fun d : Fin 5 => payOf I (gpar d c) (.reg s) d)]
  iintro ⟨#HK, HO, ⟨Ha, ⟨Ht0, Ht1, Ht2, Ht3, Ht4⟩, Hc⟩, Hp0, Hp1, Hp2, Hp3, Hp4⟩ HQ
  iapply (wp_sigs I s c l fives) $$ [HO Ht0 Ht1 Ht2 Ht3 Ht4 Hp0 Hp1 Hp2 Hp3 Hp4]
  · isplitr; · iexact HK
    isplitl [HO]; · iexact HO
    simp only [sigRes]
    isplitl [Ht0 Hp0]
    · isplitl [Ht0]; · iexact Ht0
      iexact Hp0
    isplitl [Ht1 Hp1]
    · isplitl [Ht1]; · iexact Ht1
      iexact Hp1
    isplitl [Ht2 Hp2]
    · isplitl [Ht2]; · iexact Ht2
      iexact Hp2
    isplitl [Ht3 Hp3]
    · isplitl [Ht3]; · iexact Ht3
      iexact Hp3
    isplitl [Ht4 Hp4]
    · isplitl [Ht4]; · iexact Ht4
      iexact Hp4
    iempintro
  iintro HO
  iapply (wp_five I c s l hl) $$ [HO Ha Hc]
  · isplitr; · iexact HK
    isplitl [HO]; · iexact HO
    isplitl [Ha]; · iexact Ha
    iexact Hc
  iintro H
  iapply (wp_done c (α := PUnit) ⟨⟩)
  iapply HQ
  iexact H

/-! ## What is lent -/

/-- The result's buffer cut into the device's own rows and those lent in each round of the all-gather. -/
theorem cut_result (c : Dev nD) :
    (∃ f, pts c cc0_scratch5 Finset.univ f : sProp 𝕄)
      ⊢ iprop((∃ f, pts c cc0_scratch5 (gset 0 c) f) ∗ bigSep Finset.univ fun d : Fin 5 => iprop(∃ f, pts c cc0_scratch5 (gset d (gpar d c)) f)) := by
  rw [bigSep_fin5]
  iintro ⟨%f, H⟩
  ihave H := (Entails.of_eq (show (pts c cc0_scratch5 Finset.univ f : sProp 𝕄) = pts c cc0_scratch5 (gset 5 c) f from by
    rw [gset_five c])) $$ H
  ihave H := (cut_gset 4 c f 5 4 rfl rfl) $$ H; icases H with ⟨H, H4⟩
  ihave H := (cut_gset 3 c f 4 3 rfl rfl) $$ H; icases H with ⟨H, H3⟩
  ihave H := (cut_gset 2 c f 3 2 rfl rfl) $$ H; icases H with ⟨H, H2⟩
  ihave H := (cut_gset 1 c f 2 1 rfl rfl) $$ H; icases H with ⟨H, H1⟩
  ihave H := (cut_gset 0 c f 1 0 rfl rfl) $$ H; icases H with ⟨H, H0⟩
  isplitl [H]; · iexists f; iexact H
  isplitl [H0]; · iexists f; iexact H0
  isplitl [H1]; · iexists f; iexact H1
  isplitl [H2]; · iexists f; iexact H2
  isplitl [H3]; · iexists f; iexact H3
  iexists f; iexact H4

/-- Turning the order of five around. -/
theorem bigSep_rev (Φ : Fin 5 → sProp 𝕄) : bigSep Finset.univ (fun d : Fin 5 => Φ (Fin.rev d)) = bigSep Finset.univ Φ :=
  (bigSep_univ_equiv Fin.revPerm Φ).symm

/-- What device `c` lends its partners at the opening barrier. -/
theorem lend_all (c : Dev nD) :
    iprop((bigSep Finset.univ fun t : Fin 5 => iprop(∃ f, pts c cc0_scratch3 (landA t) f)) ∗ (bigSep Finset.univ fun t : Fin 5 => iprop(∃ f, pts c cc0_scratch4 (landS t) f))
        ∗ (bigSep Finset.univ fun d : Fin 5 => iprop(∃ f, pts c cc0_scratch5 (gset d (gpar d c)) f)))
      = (bigSep Finset.univ fun d : Fin 5 => lend c d : sProp 𝕄) := by
  unfold lend
  rw [bigSep_sep', bigSep_sep', bigSep_rev fun t => iprop(∃ f, pts c cc0_scratch3 (landA t) f), bigSep_rev fun t => iprop(∃ f, pts c cc0_scratch4 (landS t) f)]

/-- What its partners lend it, in the order of the rounds that use it. -/
theorem lent_all (c : Dev nD) :
    (bigSep Finset.univ fun d : Fin 5 => lend (gpar d c) d : sProp 𝕄)
      = iprop((bigSep Finset.univ fun t : Fin 5 => iprop(∃ f, pts (par t c) cc0_scratch3 (landA t) f)) ∗ (bigSep Finset.univ fun t : Fin 5 => iprop(∃ f, pts (par t c) cc0_scratch4 (landS t) f))
        ∗ (bigSep Finset.univ fun d : Fin 5 => iprop(∃ f, pts (par (Fin.rev d) c) cc0_scratch5 (gset d c) f))) := by
  rw [bigSep_congr (s := Finset.univ) fun (d : Fin 5) _ => lend_at (F := F) c d (Fin.rev d) rfl, bigSep_sep', bigSep_sep',
    bigSep_rev fun t => iprop(∃ f, pts (par t c) cc0_scratch3 (landA t) f), bigSep_rev fun t => iprop(∃ f, pts (par t c) cc0_scratch4 (landS t) f)]

/-! ## The body -/

/-- Device `c`'s share of the whole protocol. -/
def ghost (c : Dev nD) : sProp 𝕄 :=
  iprop(regG 0 c ∗ (bigSep Finset.univ fun t : Fin 5 => rsG t c) ∗ (bigSep Finset.univ fun t : Fin 5 => agG t c) ∗ regG 1 c)
/-- Its semaphores closed. -/
def closed (c : Dev nD) : sProp 𝕄 :=
  iprop(semVal (rcell c 0) 0 ∗ (bigSep Finset.univ fun t : Fin 5 => rsZ t c) ∗ (bigSep Finset.univ fun t : Fin 5 => agZ t c) ∗ semVal (rcell c 1) 0)
/-- The staged arguments. -/
def staged (I : Inp F) (c : Dev nD) : sProp 𝕄 :=
  iprop(pts c cc0_stg0_0 Finset.univ (I.x c) ∗ pts c cc0_stg1_0 Finset.univ (I.wq c) ∗ pts c cc0_stg2_0 Finset.univ (I.wo c)
    ∗ pts c cc0_stg3_0 Finset.univ (I.k c) ∗ pts c cc0_stg4_0 Finset.univ (I.v c))
/-- The scratch buffers, whatever they hold. -/
def scratch (c : Dev nD) : sProp 𝕄 :=
  iprop((∃ f, pts c cc0_scratch0 Finset.univ f) ∗ (∃ f, pts c cc0_scratch1 Finset.univ f) ∗ (∃ f, pts c cc0_scratch2 Finset.univ f)
    ∗ (∃ f, pts c cc0_scratch3 Finset.univ f) ∗ (∃ f, pts c cc0_scratch4 Finset.univ f) ∗ (∃ f, pts c cc0_scratch5 Finset.univ f))

/-- The body in the launch's buffers. -/
abbrev bodyW : Prog (BE F) PUnit :=
  body (Memref.whole cc0_stg0_0) (Memref.whole cc0_stg1_0) (Memref.whole cc0_stg2_0) (Memref.whole cc0_stg3_0) (Memref.whole cc0_stg4_0) (Memref.whole cc0_stg5_0)
    (Memref.whole cc0_scratch0) (Memref.whole cc0_scratch1) (Memref.isWhole_whole _) (Memref.whole cc0_scratch2) (Memref.whole cc0_scratch3) (Memref.isWhole_whole _)
    (Memref.whole cc0_scratch4) (Memref.whole cc0_scratch5) (Memref.isWhole_whole _) cc0_scratch6 cc0_scratch7 cc0_scratch8 cc0_scratch9 cc0_scratch10 cc0_scratch11 cc0_scoped0

theorem scoped_sem : (cc0_scoped0 : Sems sig S_).sem = (1 : Sem sig) := by decide

theorem hlR0 : ∀ x ∈ paysR0, lvS (.reg 0) < lvS x.2.1 := by decide
theorem hl0 : ∀ x ∈ paysR1, 2 + (0 : Fin 5).val < lvS x.2.1 := by decide
theorem hl1 : ∀ x ∈ paysR2, 2 + (1 : Fin 5).val < lvS x.2.1 := by decide
theorem hl2 : ∀ x ∈ paysR3, 2 + (2 : Fin 5).val < lvS x.2.1 := by decide
theorem hl3 : ∀ x ∈ paysR4, 2 + (3 : Fin 5).val < lvS x.2.1 := by decide
theorem hl4 : ∀ x ∈ paysG0, 2 + (4 : Fin 5).val < lvS x.2.1 := by decide
theorem hg0 : ∀ x ∈ paysG1, 10 + (0 : Fin 5).val < lvS x.2.1 := by decide
theorem hg1 : ∀ x ∈ paysG2, 10 + (1 : Fin 5).val < lvS x.2.1 := by decide
theorem hg2 : ∀ x ∈ paysG3, 10 + (2 : Fin 5).val < lvS x.2.1 := by decide
theorem hg3 : ∀ x ∈ paysG4, 10 + (3 : Fin 5).val < lvS x.2.1 := by decide
theorem hg4 : ∀ x ∈ paysE, 10 + (4 : Fin 5).val < lvS x.2.1 := by decide

theorem pays_split : pays = fives.map (payR 0) ++ paysR0 := by
  simp only [List.map_cons, List.map_nil, List.cons_append, List.nil_append]
theorem paysE_split : paysE = fives.map (payR 1) ++ [] := by
  simp only [List.map_cons, List.map_nil, List.cons_append, List.nil_append]
theorem five_word : (5#32 : BitVec 32).toInt = 5 := by decide

set_option maxHeartbeats 1600000 in
/-- The body on device `c`: from its share of the protocol and its arguments to all semaphores closed and the result written. -/
theorem wp_body (I : Inp F) (c : Dev nD) {Q : PUnit → sProp 𝕄} :
    iprop(know I ∗ owed c pays ∗ ghost c ∗ staged I c ∗ scratch c ∗ (∃ f, pts c cc0_stg5_0 Finset.univ f))
      ⊢ iprop(((owed c [] ∗ closed c ∗ staged I c ∗ scratch c ∗ pts c cc0_stg5_0 Finset.univ (outV I)) -∗ Q ⟨⟩) -∗ WP c bodyW Q) := by
  have hb : sig.barrier 0 rfl = (0 : Sem sig) := rfl
  unfold bodyW body WP
  simp only [Prog.lift, Prog.bind_op, Prog.bind_ret, wp_deviceId]
  simp only [wp_bind]
  simp only [semWaitWord, Prog.lift, five_word]
  rw [hb, scoped_sem, show barDevs c = fives.map (fun d => gpar d c) from barDevs_eq c, show endDevs c = fives.map (fun d => gpar d c) from endDevs_eq c]
  unfold ghost closed staged scratch
  simp only [bigSep_fin5]
  iintro ⟨#HK, HO, ⟨Hr0, ⟨Hs0, Hs1, Hs2, Hs3, Hs4⟩, ⟨Hg0, Hg1, Hg2, Hg3, Hg4⟩, Hr1⟩, ⟨Hx, Hwq, Hwo, Hk, Hv⟩, ⟨⟨%f0, HA⟩, ⟨%f1, HT⟩, ⟨%f2, HS⟩, H3, H4, H5⟩, ⟨%fo, Hout⟩⟩ HQ
  ihave H3 := (cut5 c cc0_scratch3 landA landA_disj) $$ H3; icases H3 with ⟨H3, H3r⟩
  ihave H4 := (cut5 c cc0_scratch4 landS landS_disj) $$ H4; icases H4 with ⟨H4, H4r⟩
  ihave H5 := (cut_result c) $$ H5; icases H5 with ⟨⟨%fg, HG⟩, H5⟩
  ihave HL := (Entails.of_eq ((lend_all c).trans (bigSep_congr (s := Finset.univ) fun (d : Fin 5) _ => (pay_open I c d).symm))) $$ [H3 H4 H5]
  · isplitl [H3]; · iexact H3
    isplitl [H4]; · iexact H4
    iexact H5
  ihave HO := (Entails.of_eq (congrArg (owed c) pays_split)) $$ HO
  iapply (wp_meet I 0 c paysR0 hlR0) $$ [HO Hr0 HL]
  · isplitr; · iexact HK
    isplitl [HO]; · iexact HO
    isplitl [Hr0]; · iexact Hr0
    iexact HL
  iintro ⟨HO, Hz0, HL⟩
  ihave HL := (Entails.of_eq ((bigSep_congr (s := Finset.univ) fun (d : Fin 5) _ => pay_open' I c d).trans (lent_all c))) $$ HL
  icases HL with ⟨Ha, Hb, Hd⟩
  ihave Ha := (Entails.of_eq (bigSep_fin5 (fun t => iprop(∃ f, pts (par t c) cc0_scratch3 (landA t) f)))) $$ Ha
  ihave Hb := (Entails.of_eq (bigSep_fin5 (fun t => iprop(∃ f, pts (par t c) cc0_scratch4 (landS t) f)))) $$ Hb
  ihave Hd := (Entails.of_eq (bigSep_fin5 (fun d => iprop(∃ f, pts (par (Fin.rev d) c) cc0_scratch5 (gset d c) f)))) $$ Hd
  icases Ha with ⟨Ha0, Ha1, Ha2, Ha3, Ha4⟩
  icases Hb with ⟨Hb0, Hb1, Hb2, Hb3, Hb4⟩
  icases Hd with ⟨Hd0, Hd1, Hd2, Hd3, Hd4⟩
  iapply (wp_q c (I.x c) (I.wq c)) $$ [Hx Hwq]
  · isplitl [Hx]; · iexact Hx
    iexact Hwq
  iintro ⟨Hx, Hwq⟩
  iapply (wp_heads c (qOf (I.x c) (I.wq c)) (I.k c) (I.v c) f0 f1 f2) $$ [Hk Hv HA HT HS]
  · isplitl [Hk]; · iexact Hk
    isplitl [Hv]; · iexact Hv
    isplitl [HA]; · iexact HA
    isplitl [HT]; · iexact HT
    iexact HS
  iintro ⟨Hk, Hv, HA, HT, HS⟩
  iapply (wp_roundTx (I := I) (t := 0) (at0 c) (X0 c) paysR1 hl0) $$ [HO Hs0 HA HT HS Ha0 Hb0]
  · isplitr; · iexact HK
    isplitl [HO]; · iexact HO
    isplitl [Hs0]; · iexact Hs0
    isplitl [HA]; · iexact HA
    isplitl [HT]; · iexact HT
    isplitl [HS]; · iexact HS
    isplitl [Ha0]; · iexact Ha0
    iexact Hb0
  iintro ⟨HO, Hs0, HA, HT, HS, Ha0, Hb0⟩
  iapply (wp_roundTx (I := I) (t := 1) (at1 c) (X1 c) paysR2 hl1) $$ [HO Hs1 HA HT HS Ha1 Hb1]
  · isplitr; · iexact HK
    isplitl [HO]; · iexact HO
    isplitl [Hs1]; · iexact Hs1
    isplitl [HA]; · iexact HA
    isplitl [HT]; · iexact HT
    isplitl [HS]; · iexact HS
    isplitl [Ha1]; · iexact Ha1
    iexact Hb1
  iintro ⟨HO, Hs1, HA, HT, HS, Ha1, Hb1⟩
  iapply (wp_roundTx (I := I) (t := 2) (at2 c) (X2 c) paysR3 hl2) $$ [HO Hs2 HA HT HS Ha2 Hb2]
  · isplitr; · iexact HK
    isplitl [HO]; · iexact HO
    isplitl [Hs2]; · iexact Hs2
    isplitl [HA]; · iexact HA
    isplitl [HT]; · iexact HT
    isplitl [HS]; · iexact HS
    isplitl [Ha2]; · iexact Ha2
    iexact Hb2
  iintro ⟨HO, Hs2, HA, HT, HS, Ha2, Hb2⟩
  iapply (wp_roundTx (I := I) (t := 3) (at3 c) (X3 c) paysR4 hl3) $$ [HO Hs3 HA HT HS Ha3 Hb3]
  · isplitr; · iexact HK
    isplitl [HO]; · iexact HO
    isplitl [Hs3]; · iexact Hs3
    isplitl [HA]; · iexact HA
    isplitl [HT]; · iexact HT
    isplitl [HS]; · iexact HS
    isplitl [Ha3]; · iexact Ha3
    iexact Hb3
  iintro ⟨HO, Hs3, HA, HT, HS, Ha3, Hb3⟩
  iapply (wp_roundLast (I := I) (t := 4) (at4 c) paysG0 hl4) $$ [HO Hs4 HA HT HS Ha4 Hb4]
  · isplitr; · iexact HK
    isplitl [HO]; · iexact HO
    isplitl [Hs4]; · iexact Hs4
    isplitl [HA]; · iexact HA
    isplitl [HT]; · iexact HT
    isplitl [HS]; · iexact HS
    isplitl [Ha4]; · iexact Ha4
    iexact Hb4
  iintro ⟨HO, Hs4, HA, HT, HS, Ha4, Hb4⟩
  iapply (wp_fin I c fg) $$ [Hwo HA HS HG]
  · isplitl [Hwo]; · iexact Hwo
    isplitl [HA]; · iexact HA
    isplitl [HS]; · iexact HS
    iexact HG
  iintro ⟨Hwo, HA, HS, HG⟩
  iapply (wp_gather (I := I) (t := 0) (gat0 c) paysG1 hg0) $$ [HO Hg0 HG Hd0]
  · isplitr; · iexact HK
    isplitl [HO]; · iexact HO
    isplitl [Hg0]; · iexact Hg0
    isplitl [HG]; · iexact HG
    iexact Hd0
  iintro ⟨HO, Hg0, HG⟩
  iapply (wp_gather (I := I) (t := 1) (gat1 c) paysG2 hg1) $$ [HO Hg1 HG Hd1]
  · isplitr; · iexact HK
    isplitl [HO]; · iexact HO
    isplitl [Hg1]; · iexact Hg1
    isplitl [HG]; · iexact HG
    iexact Hd1
  iintro ⟨HO, Hg1, HG⟩
  iapply (wp_gather (I := I) (t := 2) (gat2 c) paysG3 hg2) $$ [HO Hg2 HG Hd2]
  · isplitr; · iexact HK
    isplitl [HO]; · iexact HO
    isplitl [Hg2]; · iexact Hg2
    isplitl [HG]; · iexact HG
    iexact Hd2
  iintro ⟨HO, Hg2, HG⟩
  iapply (wp_gather (I := I) (t := 3) (gat3 c) paysG4 hg3) $$ [HO Hg3 HG Hd3]
  · isplitr; · iexact HK
    isplitl [HO]; · iexact HO
    isplitl [Hg3]; · iexact Hg3
    isplitl [HG]; · iexact HG
    iexact Hd3
  iintro ⟨HO, Hg3, HG⟩
  iapply (wp_gather (I := I) (t := 4) (gat4 c) paysE hg4) $$ [HO Hg4 HG Hd4]
  · isplitr; · iexact HK
    isplitl [HO]; · iexact HO
    isplitl [Hg4]; · iexact Hg4
    isplitl [HG]; · iexact HG
    iexact Hd4
  iintro ⟨HO, Hg4, HG⟩
  ihave HG := (Entails.of_eq (show (pts c cc0_scratch5 (gset ((4 : Fin 5).val + 1) c) (outG I) : sProp 𝕄) = pts c cc0_scratch5 Finset.univ (outG I) from by
    rw [← gset_five c]; rfl)) $$ HG
  iapply (wp_out I c fo) $$ [HG Hout]
  · isplitl [HG]; · iexact HG
    iexact Hout
  iintro ⟨HG, Hout⟩
  ihave HO := (Entails.of_eq (congrArg (owed c) paysE_split)) $$ HO
  iapply (wp_meet I 1 c [] (fun x hx => absurd hx List.not_mem_nil)) $$ [HO Hr1]
  · isplitr; · iexact HK
    isplitl [HO]; · iexact HO
    isplitl [Hr1]; · iexact Hr1
    rw [bigSep_congr (s := Finset.univ) fun (d : Fin 5) _ => pay_end I (gpar d c) d, bigSep_fin5]
    isplitr; · iempintro
    isplitr; · iempintro
    isplitr; · iempintro
    isplitr; · iempintro
    iempintro
  iintro ⟨HO, Hz1, -⟩
  iapply HQ
  isplitl [HO]; · iexact HO
  isplitl [Hz0 Hz1 Hs0 Hs1 Hs2 Hs3 Hs4 Hg0 Hg1 Hg2 Hg3 Hg4]
  · isplitl [Hz0]; · iexact Hz0
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [Hg0 Hg1 Hg2 Hg3 Hg4]
    · isplitl [Hg0]; · iexact Hg0
      isplitl [Hg1]; · iexact Hg1
      isplitl [Hg2]; · iexact Hg2
      isplitl [Hg3]; · iexact Hg3
      iexact Hg4
    iexact Hz1
  isplitl [Hx Hwq Hwo Hk Hv]
  · isplitl [Hx]; · iexact Hx
    isplitl [Hwq]; · iexact Hwq
    isplitl [Hwo]; · iexact Hwo
    isplitl [Hk]; · iexact Hk
    iexact Hv
  isplitr [Hout]
  · isplitl [HA]; · iexists _; iexact HA
    isplitl [HT]; · iexists _; iexact HT
    isplitl [HS]; · iexists _; iexact HS
    isplitl [H3r Ha0 Ha1 Ha2 Ha3 Ha4]
    · iapply (join5 c cc0_scratch3 landA landA_disj (txOf (cont I 0) c))
      isplitr [H3r]
      · iapply (Entails.of_eq (bigSep_fin5 (fun t => iprop(∃ f, pts c cc0_scratch3 (landA t) f))).symm)
        isplitl [Ha0]; · iexact Ha0
        isplitl [Ha1]; · iexact Ha1
        isplitl [Ha2]; · iexact Ha2
        isplitl [Ha3]; · iexact Ha3
        iexact Ha4
      iexact H3r
    isplitl [H4r Hb0 Hb1 Hb2 Hb3 Hb4]
    · iapply (join5 c cc0_scratch4 landS landS_disj ((cont I 0).2 c))
      isplitr [H4r]
      · iapply (Entails.of_eq (bigSep_fin5 (fun t => iprop(∃ f, pts c cc0_scratch4 (landS t) f))).symm)
        isplitl [Hb0]; · iexact Hb0
        isplitl [Hb1]; · iexact Hb1
        isplitl [Hb2]; · iexact Hb2
        isplitl [Hb3]; · iexact Hb3
        iexact Hb4
      iexact H4r
    iexists _; iexact HG
  iexact Hout

end Cert.KernelIdeal.K

end
-- ==== Proof.KernelIdeal.Fund.lean ====
/-
  The protocol's ghost state made at the start and dealt to the devices, and the credit for what each is owed.
-/
module

public import proofs.«01_k».proof.Proof.KernelIdeal.Body

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The semaphores enumerated -/

theorem seps (P Q R : sProp 𝕄) : iprop((P ∗ Q) ∗ R) = iprop(P ∗ Q ∗ R) := equiv_iff.mp ⟨BI.sep_assoc, BI.sep_assoc'⟩

/-- All the kernel's semaphores of a device, grouped by kind. -/
theorem cells_split (Φ : Fin 32 → sProp 𝕄) :
    bigSep Finset.univ Φ = iprop((bigSep Finset.univ fun t => Φ (ix 0 t)) ∗ (bigSep Finset.univ fun t => Φ (ix 1 t)) ∗ (bigSep Finset.univ fun t => Φ (ix 2 t))
      ∗ (bigSep Finset.univ fun t => Φ (ix 3 t)) ∗ (bigSep Finset.univ fun t => Φ (ix 4 t)) ∗ (bigSep Finset.univ fun t => Φ (ix 5 t)) ∗ Φ (ir 1) ∗ Φ (ir 0)) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ]
  simp only [bigSepL_cons_cons, bigSepL_singleton, bigSep_fin5, seps]
  rfl

/-- The same of a state of each semaphore. -/
theorem at_cells (c : Dev nD) (Φ : GSem nD τ sig → sProp 𝕄) :
    (bigSep Finset.univ fun j : Fin 32 => Φ (kcell (c, j)))
      = iprop((bigSep Finset.univ fun t => Φ (dcell c 0 t)) ∗ (bigSep Finset.univ fun t => Φ (dcell c 1 t)) ∗ (bigSep Finset.univ fun t => Φ (dcell c 2 t))
      ∗ (bigSep Finset.univ fun t => Φ (dcell c 3 t)) ∗ (bigSep Finset.univ fun t => Φ (dcell c 4 t)) ∗ (bigSep Finset.univ fun t => Φ (dcell c 5 t)) ∗ Φ (rcell c 1) ∗ Φ (rcell c 0)) := by
  have h : ∀ k t, kcell (c, ix k t) = dcell c k t := fun k t => by unfold kcell; rw [csem_ix]
  have h' : ∀ s, kcell (c, ir s) = rcell c s := fun s => by unfold kcell; rw [csem_ir]
  rw [cells_split]
  simp only [h, h']

theorem csem_injective : Function.Injective csem := by decide +kernel
theorem kcell_injective : Function.Injective (kcell : Dev nD × Fin 32 → GSem nD τ sig) := by
  rintro ⟨c, j⟩ ⟨c', j'⟩ h
  have h1 : c = c' := congrArg (fun g : GSem nD τ sig => g.1.1) h
  have h2 : j = j' := csem_injective (congrArg Prod.snd h)
  rw [h1, h2]
/-- The cells of the protocol. -/
def kcells : Finset (GSem nD τ sig) := Finset.univ.map ⟨kcell, kcell_injective⟩

/-! ## The tokens -/

/-- Which payments a device's semaphores take: each transfer's one, each barrier's five. -/
abbrev Tk := Fin 8 × Fin 5
/-- The semaphore a payment goes to. -/
def tkSem (j : Tk) : SemLoc sig := if h : j.1.val < 6 then .dma (xs ⟨j.1.val, h⟩ j.2) else .reg ⟨j.1.val - 6, by have := j.1.isLt; show _ < 2; omega⟩
/-- Which of its payments. -/
def tkDuty (j : Tk) : Fin 5 := if j.1.val < 6 then 0 else j.2
/-- Who makes it, seen from the semaphore's device. -/
def tkBy (j : Tk) (c : Dev nD) : Dev nD :=
  match j.1 with
  | 0 => c | 2 => c | 4 => c
  | 1 => par j.2 c | 3 => par j.2 c
  | 5 => gpar j.2 c | 6 => gpar j.2 c | 7 => gpar j.2 c
theorem tkBy_tkBy (j : Tk) (c : Dev nD) : tkBy j (tkBy j c) = c := by
  obtain ⟨k, t⟩ := j
  fin_cases k <;> first | rfl | exact par_par _ _ | exact gpar_gpar _ _
theorem tk_injective : ∀ j j' : Tk, tkSem j = tkSem j' → tkDuty j = tkDuty j' → j = j' := by decide +kernel

abbrev tokOf (cj : Dev nD × Tk) : GSem nD τ sig × ℕ × Fin 5 := (((cj.1 : Thread nD τ), tkSem cj.2), 0, tkDuty cj.2)
theorem tokOf_injective : Function.Injective (tokOf : Dev nD × Tk → GSem nD τ sig × ℕ × Fin 5) := by
  rintro ⟨c, j⟩ ⟨c', j'⟩ h
  have h1 : c = c' := congrArg (fun x : GSem nD τ sig × ℕ × Fin 5 => x.1.1.1) h
  have h2 : j = j' := tk_injective j j' (congrArg (fun x : GSem nD τ sig × ℕ × Fin 5 => x.1.2) h) (congrArg (fun x : GSem nD τ sig × ℕ × Fin 5 => x.2.2) h)
  rw [h1, h2]
def ktoks : Finset (GSem nD τ sig × ℕ × Fin 5) := Finset.univ.map ⟨tokOf, tokOf_injective⟩

/-- The tokens of device `c`'s own semaphores. -/
def toks (c : Dev nD) : sProp 𝕄 := bigSep Finset.univ fun j : Tk => dutyTok ER ((c : Thread nD τ), tkSem j) 0 (tkDuty j)
/-- The tokens of the payments it makes. -/
def payToks (c : Dev nD) : sProp 𝕄 := bigSep Finset.univ fun j : Tk => dutyTok ER ((tkBy j c : Thread nD τ), tkSem j) 0 (tkDuty j)

/-- Every payment's token goes to who makes it. -/
def deal : (Dev nD × Tk) ≃ (Dev nD × Tk) where
  toFun x := (tkBy x.2 x.1, x.2)
  invFun x := (tkBy x.2 x.1, x.2)
  left_inv x := by show (tkBy x.2 (tkBy x.2 x.1), x.2) = x; rw [tkBy_tkBy]
  right_inv x := by show (tkBy x.2 (tkBy x.2 x.1), x.2) = x; rw [tkBy_tkBy]

theorem toks_dealt : (bigSep Finset.univ fun c : Dev nD => (toks c : sProp 𝕄)) = bigSep Finset.univ fun c : Dev nD => payToks c := by
  unfold toks payToks
  rw [← bigSep_univ_prod (fun x : Dev nD × Tk => (dutyTok ER ((x.1 : Thread nD τ), tkSem x.2) 0 (tkDuty x.2) : sProp 𝕄)), bigSep_univ_equiv deal,
    bigSep_univ_prod]
  rfl

theorem payToks_eq (c : Dev nD) :
    (payToks c : sProp 𝕄) = iprop((bigSep Finset.univ fun t : Fin 5 => dutyTok ER (dcell c 0 t) 0 0) ∗ (bigSep Finset.univ fun t : Fin 5 => dutyTok ER (dcell (par t c) 1 t) 0 0)
      ∗ (bigSep Finset.univ fun t : Fin 5 => dutyTok ER (dcell c 2 t) 0 0) ∗ (bigSep Finset.univ fun t : Fin 5 => dutyTok ER (dcell (par t c) 3 t) 0 0)
      ∗ (bigSep Finset.univ fun t : Fin 5 => dutyTok ER (dcell c 4 t) 0 0) ∗ (bigSep Finset.univ fun t : Fin 5 => dutyTok ER (dcell (par (Fin.rev t) c) 5 t) 0 0)
      ∗ (bigSep Finset.univ fun d : Fin 5 => dutyTok ER (rcell (gpar d c) 0) 0 d) ∗ (bigSep Finset.univ fun d : Fin 5 => dutyTok ER (rcell (gpar d c) 1) 0 d)) := by
  unfold payToks
  rw [bigSep_univ_prod, bigSep_univ_eq_bigSepL [0, 1, 2, 3, 4, 5, 6, 7] (by decide) (by decide)]
  rfl

/-! ## The credit -/

/-- What device `c` is owed, payment by payment. -/
def credsOf (c : Dev nD) : Pays → sProp 𝕄
  | [] => iprop(emp)
  | x :: l => iprop(credsOf c l ∗ cred (tallyAt ((c : Thread nD τ), x.2.1) () x.2.2))

theorem cred_one (c : Dev nD) (x : Fin 5 × SemLoc sig × ℕ) :
    (Pipeline.launchCred (fun d : Dev nD => (tallyAt ((par x.1 d : Thread nD τ), x.2.1) () x.2.2 : CellTallies nD τ sig Unit)) c : sProp 𝕄)
      ⊢ cred (tallyAt ((c : Thread nD τ), x.2.1) () x.2.2) := by
  refine (Pipeline.launchCred_elim _ c x.2.1).trans (Entails.of_eq (congrArg cred ?_))
  unfold tallyAt
  refine congrArg _ (Finsupp.ext fun u => ?_)
  cases u
  rw [Pipeline.launchCredit_owing, Finsupp.single_eq_same]
  have h : ∀ d : Dev nD, (tallyOn ((par x.1 d : Thread nD τ), x.2.1) (Finsupp.single () x.2.2) : CellTallies nD τ sig Unit) ((c : Thread nD τ), x.2.1) ()
      = if d = par x.1 c then x.2.2 else 0 := fun d => by
    have e := tallyAt_apply ((par x.1 d : Thread nD τ), x.2.1) () x.2.2 ((c : Thread nD τ), x.2.1) ()
    unfold tallyAt at e
    rw [e]
    by_cases hd : d = par x.1 c
    · subst hd; rw [par_par, if_pos ⟨rfl, rfl⟩, if_pos rfl]
    · rw [if_neg (fun hh => hd ?_), if_neg hd]
      have : c = par x.1 d := congrArg (fun g : GSem nD τ sig => g.1.1) hh.1
      rw [this, par_par]
  rw [Finset.sum_congr rfl fun d _ => h d, Finset.sum_ite_eq' Finset.univ (par x.1 c) fun _ => x.2.2, if_pos (Finset.mem_univ _)]

/-- The credit at the start is for what is owed. -/
theorem creds (c : Dev nD) : ∀ l : Pays, (Pipeline.launchCred (fun d : Dev nD => owe d l) c : sProp 𝕄) ⊢ credsOf c l
  | [] => Entails.of_eq (Pipeline.launchCred_zero c)
  | x :: l => by
    have h : (fun d : Dev nD => owe d (x :: l)) = fun d => owe d l + tallyAt ((par x.1 d : Thread nD τ), x.2.1) () x.2.2 := rfl
    rw [h, Pipeline.launchCred_add]
    exact BI.sep_mono (creds c l) (cred_one c x)

/-- Five units' credit in one. -/
theorem cred_five (g : GSem nD τ sig) :
    (iprop(cred (tallyAt g () 1) ∗ cred (tallyAt g () 1) ∗ cred (tallyAt g () 1) ∗ cred (tallyAt g () 1) ∗ cred (tallyAt g () 1)) : sProp 𝕄) ⊢ cred (tallyAt g () 5) := by
  have h : ∀ a b : ℕ, (iprop(cred (tallyAt g () a) ∗ cred (tallyAt g () b)) : sProp 𝕄) ⊢ cred (tallyAt g () (a + b)) := fun a b => by
    rw [← tallyAt_add]; exact (cred_add _ _).2
  exact (sep_mono_right ((sep_mono_right ((sep_mono_right (h 1 1)).trans (h 1 2))).trans (h 1 3))).trans (h 1 4)

/-- The credit device `c` waits with. -/
def credG (c : Dev nD) : sProp 𝕄 :=
  iprop(cred (tallyAt (rcell c 0) () 5) ∗ cred (tallyAt (rcell c 1) () 5) ∗ (bigSep Finset.univ fun t : Fin 5 => cred (tallyAt (dcell c 1 t) () (amt 1 t)))
    ∗ (bigSep Finset.univ fun t : Fin 5 => cred (tallyAt (dcell c 3 t) () (amt 3 t))) ∗ (bigSep Finset.univ fun t : Fin 5 => cred (tallyAt (dcell c 5 t) () (amt 5 t))))

theorem creds_all (c : Dev nD) : credsOf c pays ⊢ (credG c : sProp 𝕄) := by
  unfold credG
  simp only [credsOf, bigSep_fin5]
  iintro ⟨⟨⟨⟨⟨⟨⟨⟨⟨⟨⟨⟨⟨⟨⟨⟨⟨⟨⟨⟨⟨⟨⟨⟨⟨-, E4⟩, E3⟩, E2⟩, E1⟩, E0⟩, G4⟩, G3⟩, G2⟩, G1⟩, G0⟩, S4⟩, A4⟩, S3⟩, A3⟩, S2⟩, A2⟩, S1⟩, A1⟩, S0⟩, A0⟩, B4⟩, B3⟩, B2⟩, B1⟩, B0⟩
  isplitl [B0 B1 B2 B3 B4]
  · iapply (cred_five (rcell c 0))
    isplitl [B0]; · iexact B0
    isplitl [B1]; · iexact B1
    isplitl [B2]; · iexact B2
    isplitl [B3]; · iexact B3
    iexact B4
  isplitl [E0 E1 E2 E3 E4]
  · iapply (cred_five (rcell c 1))
    isplitl [E0]; · iexact E0
    isplitl [E1]; · iexact E1
    isplitl [E2]; · iexact E2
    isplitl [E3]; · iexact E3
    iexact E4
  isplitl [A0 A1 A2 A3 A4]
  · isplitl [A0]; · iexact A0
    isplitl [A1]; · iexact A1
    isplitl [A2]; · iexact A2
    isplitl [A3]; · iexact A3
    iexact A4
  isplitl [S0 S1 S2 S3 S4]
  · isplitl [S0]; · iexact S0
    isplitl [S1]; · iexact S1
    isplitl [S2]; · iexact S2
    isplitl [S3]; · iexact S3
    iexact S4
  isplitl [G0]; · iexact G0
  isplitl [G1]; · iexact G1
  isplitl [G2]; · iexact G2
  isplitl [G3]; · iexact G3
  iexact G4

/-! ## A device's share put together -/

/-- Its positions and tokens. -/
def linear (c : Dev nD) : sProp 𝕄 := iprop((bigSep Finset.univ fun j : Fin 32 => atPos ER (kcell (c, j)) 0 ∅ 0) ∗ payToks c)

theorem ghost_intro (c : Dev nD) : iprop(linear c ∗ credG c) ⊢ (ghost c : sProp 𝕄) := by
  unfold linear credG ghost regG rsG agG
  rw [at_cells c fun g => atPos ER g 0 ∅ 0, payToks_eq]
  simp only [bigSep_sep']
  iintro ⟨⟨⟨P0, P1, P2, P3, P4, P5, Pe, Pb⟩, T0, T1, T2, T3, T4, T5, Tb, Te⟩, Cb, Ce, C1, C3, C5⟩
  isplitl [Pb Tb Cb]
  · isplitl [Pb]; · iexact Pb
    isplitl [Tb]; · iexact Tb
    iexact Cb
  isplitl [P0 P1 P2 P3 T0 T1 T2 T3 C1 C3]
  · isplitl [P0]; · iexact P0
    isplitl [P1]; · iexact P1
    isplitl [P2]; · iexact P2
    isplitl [P3]; · iexact P3
    isplitl [T0]; · iexact T0
    isplitl [T1]; · iexact T1
    isplitl [T2]; · iexact T2
    isplitl [T3]; · iexact T3
    isplitl [C1]; · iexact C1
    iexact C3
  isplitl [P4 P5 T4 T5 C5]
  · isplitl [P4]; · iexact P4
    isplitl [P5]; · iexact P5
    isplitl [T4]; · iexact T4
    isplitl [T5]; · iexact T5
    iexact C5
  isplitl [Pe]; · iexact Pe
  isplitl [Te]; · iexact Te
  iexact Ce

theorem closed_cells (c : Dev nD) : closed c ⊢ (bigSep Finset.univ fun j : Fin 32 => semVal (kcell (c, j)) 0 : sProp 𝕄) := by
  unfold closed rsZ agZ
  rw [at_cells c fun g => semVal g 0]
  simp only [bigSep_sep']
  iintro ⟨Hb, ⟨H0, H1, H2, H3⟩, ⟨H4, H5⟩, He⟩
  isplitl [H0]; · iexact H0
  isplitl [H1]; · iexact H1
  isplitl [H2]; · iexact H2
  isplitl [H3]; · iexact H3
  isplitl [H4]; · iexact H4
  isplitl [H5]; · iexact H5
  isplitl [He]; · iexact He
  iexact Hb

end Cert.KernelIdeal.K

end
-- ==== Proof.KernelIdeal.Launch.lean ====
/-
  The launch: every device's body from the memory given, the ghost state dealt, and the run of the whole program.
-/
module

public import proofs.«01_k».proof.Proof.KernelIdeal.Fund
public import proofs.«01_k».proof.Proof.Gen.KernelIdeal.Launch
public import proofs.«01_k».proof.Proof.Gen.KernelIdeal.Points
public import Idealize.ShloMosaic.Lib.Quiescent
public import Idealize.ShloMosaic.Lib.Pipeline.CollectiveSegs

@[expose] public section

noncomputable section

namespace Cert.KernelIdeal.K

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at the start, every counter zero. -/
def mem₀ : MemSt nD τ sig (Elt F) := ⟨m, fun _ => 0, ρ⟩

/-- What every device is given. -/
def inpOf : Inp F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg2))
  k c := (win0_3.blk (0 : Fin 1)).view.read (Elt F) (m ((c : Thread nD τ).loc main_arg3))
  v c := (win0_4.blk (0 : Fin 1)).view.read (Elt F) (m ((c : Thread nD τ).loc main_arg4))

/-- Device `c` before its body. -/
def start (c : Dev nD) : sProp 𝕄 := iprop(know (inpOf m) ∗ ghost c)

/-- The region's proof data. -/
def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => (inpOf m).x c
    | ⟨1, _⟩ => (inpOf m).wq c
    | ⟨2, _⟩ => (inpOf m).wo c
    | ⟨3, _⟩ => (inpOf m).k c
    | ⟨4, _⟩ => (inpOf m).v c
    | ⟨5, _⟩ => outV (inpOf m)
  Φ t := match t with
    | ⟨0, _⟩ => iprop(start m c ∗ scratch c)
    | ⟨_ + 1, _⟩ => iprop(closed c ∗ scratch c)
  q _ := fullShare
  owed t := match t with
    | ⟨0, _⟩ => owe c pays
    | ⟨_ + 1, _⟩ => owe c []

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pts c b Finset.univ f) := by
  unfold owns; simp only [Memref.view_whole, View.read_whole, View.set_whole]

/-- A staging buffer held at given contents. -/
abbrev stg (c : Dev nD) (b : Ref sig .tc) (X : b.ty.Contents (Elt F)) : sProp 𝕄 :=
  iprop(∃ f : Buf (Elt F) (((c : Dev nD) : Thread nD τ).loc b), ⌜f = X⌝ ∗ pts c b Finset.univ f)

/-- What the body is entered with. -/
def bodyPre (c : Dev nD) : sProp 𝕄 :=
  iprop((start m c ∗ scratch c) ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
/-- What it is left with. -/
def bodyPost (c : Dev nD) : sProp 𝕄 :=
  iprop((closed c ∗ scratch c) ∗ (dats m ρ 0 c).owesAt () t0_0.succ
    ∗ stg c cc0_stg0_0 ((inpOf m).x c) ∗ stg c cc0_stg1_0 ((inpOf m).wq c) ∗ stg c cc0_stg2_0 ((inpOf m).wo c)
    ∗ stg c cc0_stg3_0 ((inpOf m).k c) ∗ stg c cc0_stg4_0 ((inpOf m).v c) ∗ stg c cc0_stg5_0 (outV (inpOf m)))

/-- A staged argument holds the device's argument. -/
theorem stg_in (c : Dev nD) (b : Ref sig .tc) {X Y : b.ty.Contents (Elt F)} (h : X = Y) : (stg c b X : sProp 𝕄) ⊢ pts c b Finset.univ Y := by
  subst h
  iintro ⟨%f, %hf, H⟩
  subst hf
  iexact H
theorem stg_out (c : Dev nD) (b : Ref sig .tc) (X : b.ty.Contents (Elt F)) : pts c b Finset.univ X ⊢ (stg c b X : sProp 𝕄) := by
  iintro H
  iexists X
  isplitr; · ipureintro; rfl
  iexact H

/-- The body on device `c`. -/
theorem sound (c : Dev nD) : bodyPre m ρ c ⊢ WP c (bodyW (F := F)) (fun _ => bodyPost m ρ c) := by
  unfold bodyPre start Dat.owesAt Pipeline.owesWithin
  rw [show (dats m ρ 0 c).owed t0_0.castSucc = owe c pays from rfl]
  iintro ⟨⟨⟨#HK, HG⟩, HS⟩, ⟨%W, -, HO⟩, ⟨%d0, H0⟩, ⟨%d1, H1⟩, ⟨%d2, H2⟩, ⟨%d3, H3⟩, ⟨%d4, H4⟩, ⟨%d5, %f5, -, H5⟩⟩
  ihave H0 := (stg_in c cc0_stg0_0 (by unfold Dat.before; rw [if_pos (fetch0_0 t0_0)]; rfl : (dats m ρ 0 c).before (0 : Fin 6) t0_0 d0 = (inpOf m).x c)) $$ H0
  ihave H1 := (stg_in c cc0_stg1_0 (by unfold Dat.before; rw [if_pos (fetch0_1 t0_0)]; rfl : (dats m ρ 0 c).before (1 : Fin 6) t0_0 d1 = (inpOf m).wq c)) $$ H1
  ihave H2 := (stg_in c cc0_stg2_0 (by unfold Dat.before; rw [if_pos (fetch0_2 t0_0)]; rfl : (dats m ρ 0 c).before (2 : Fin 6) t0_0 d2 = (inpOf m).wo c)) $$ H2
  ihave H3 := (stg_in c cc0_stg3_0 (by unfold Dat.before; rw [if_pos (fetch0_3 t0_0)]; rfl : (dats m ρ 0 c).before (3 : Fin 6) t0_0 d3 = (inpOf m).k c)) $$ H3
  ihave H4 := (stg_in c cc0_stg4_0 (by unfold Dat.before; rw [if_pos (fetch0_4 t0_0)]; rfl : (dats m ρ 0 c).before (4 : Fin 6) t0_0 d4 = (inpOf m).v c)) $$ H4
  iapply (wp_body (inpOf m) c (Q := fun _ => bodyPost m ρ c)) $$ [HO HG HS H0 H1 H2 H3 H4 H5]
  · isplitr; · iexact HK
    isplitl [HO]; · unfold owed; iexists W; iexact HO
    isplitl [HG]; · iexact HG
    isplitl [H0 H1 H2 H3 H4]
    · unfold staged
      isplitl [H0]; · iexact H0
      isplitl [H1]; · iexact H1
      isplitl [H2]; · iexact H2
      isplitl [H3]; · iexact H3
      iexact H4
    isplitl [HS]; · iexact HS
    iexists f5; iexact H5
  unfold owed staged
  iintro ⟨⟨%W', HO⟩, HZ, ⟨H0, H1, H2, H3, H4⟩, HS, H5⟩
  unfold bodyPost Dat.owesAt Pipeline.owesWithin
  isplitl [HZ HS]
  · isplitl [HZ]; · iexact HZ
    iexact HS
  isplitl [HO]
  · iexists W'
    isplitr; · ipureintro; exact fun _ _ => Or.inl trivial
    rw [show (dats m ρ 0 c).owed t0_0.succ = owe c [] from rfl]
    iexact HO
  isplitl [H0]; · iapply (stg_out c cc0_stg0_0 ((inpOf m).x c)); iexact H0
  isplitl [H1]; · iapply (stg_out c cc0_stg1_0 ((inpOf m).wq c)); iexact H1
  isplitl [H2]; · iapply (stg_out c cc0_stg2_0 ((inpOf m).wo c)); iexact H2
  isplitl [H3]; · iapply (stg_out c cc0_stg3_0 ((inpOf m).k c)); iexact H3
  isplitl [H4]; · iapply (stg_out c cc0_stg4_0 ((inpOf m).v c)); iexact H4
  iapply (stg_out c cc0_stg5_0 (outV (inpOf m))); iexact H5

set_option maxRecDepth 100000 in
/-- The region's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10 cc0_scratch11 cc0_scoped0) (fun _ => bodyPost m ρ c)
  rw [body_eq]
  exact sound m ρ c

/-! ## The ghost state -/

/-- The kernel's own semaphores; the barrier is the launch's. -/
def osem (j : Fin 31) : SemLoc sig := csem ⟨j.val, by have := j.isLt; omega⟩
theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf kcells ktoks)

/-- What the protocol's start deals device `c`. -/
def G (c : Dev nD) : sProp 𝕄 :=
  iprop((bigSep Finset.univ fun j : Fin 32 => roundState ER (Rd (inpOf m)) (kcell (c, j)) 0)
    ∗ ((bigSep Finset.univ fun j : Fin 32 => atPos ER (kcell (c, j)) 0 ∅ 0) ∗ (bigSep Finset.univ fun j : Fin 32 => reached ER (kcell (c, j)) 0)) ∗ toks c)
/-- What it has once all cells are set up. -/
def G' (c : Dev nD) : sProp 𝕄 := iprop((∃ K, recs (inpOf m) K) ∗ linear c)

theorem fund_all : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun j : Fin 32 => Φ (kcell (c, j)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]; rfl
  iintro HX
  imod (Rounds.fund ER (Rd (inpOf m)) kcells ktoks) $$ HX with ⟨Hst, Hr, Hat, Htok⟩
  imodintro
  ihave Hst' := (Entails.of_eq (hX fun g => roundState ER (Rd (inpOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

abbrev os (c : Dev nD) : sProp 𝕄 := Pipeline.ownSems0 (Ix := Unit) (Name := ℕ) (U := UU) (Lvl := ℕ) (Val := Elt F) (τ := τ) osem c

theorem seps_flat (P Q R : sProp 𝕄) : BI.sep (BI.sep P Q) R = BI.sep P (BI.sep Q R) := seps P Q R

/-- The launch's semaphores are the protocol's. -/
theorem sems_eq (c : Dev nD) : (iprop(os c ∗ unscopedSems0 c) : sProp 𝕄) = bigSep Finset.univ fun j : Fin 32 => semVal (kcell (c, j)) 0 := by
  show BI.sep (os c) (unscopedSems0 c) = _
  unfold os
  rw [Pipeline.ownSems0_eq_of_list c osem [0, 1, 2, 3, 4, 5, 6, 7, 8, 9, 10, 11, 12, 13, 14, 15, 16, 17, 18, 19, 20, 21, 22, 23, 24, 25, 26, 27, 28, 29, 30] (by decide) (by decide)]
  unfold unscopedSems0
  rw [bigSep_eq_bigSepL_of_eq [SemLoc.reg 0] (by decide) (by decide),
    bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  simp only [bigSepL_cons_cons, bigSepL_singleton, seps_flat]
  rfl

/-- Device `c`'s cells set up. -/
theorem core_alloc (c : Dev nD) :
    iprop(os c ∗ unscopedSems0 c ∗ G m c)
      ⊢ |={Set.univ}=> iprop((bigSep Finset.univ fun j => iprop(∃ κ : ℕ, cellInv ER (Rd (inpOf m)) κ (kcell (c, j))))
          ∗ ((bigSep Finset.univ fun j : Fin 32 => atPos ER (kcell (c, j)) 0 ∅ 0) ∗ (bigSep Finset.univ fun j : Fin 32 => reached ER (kcell (c, j)) 0)) ∗ toks c) := by
  have h : iprop((bigSep Finset.univ fun j : Fin 32 => semVal (kcell (c, j)) 0) ∗ bigSep Finset.univ fun j : Fin 32 => roundState ER (Rd (inpOf m)) (kcell (c, j)) 0)
      ⊢ (|={Set.univ}=> bigSep Finset.univ fun j => iprop(∃ κ : ℕ, cellInv ER (Rd (inpOf m)) κ (kcell (c, j))) : sProp 𝕄) := by
    rw [← bigSep_sep']
    exact (bigSep_mono fun j _ => (Rounds.body_intro ER (Rd (inpOf m)) (kcell (c, j))).trans inv_alloc).trans (bigSep_fupd _ _)
  unfold G
  iintro ⟨Hos, Hus, Hst, Hat, Htok⟩
  ihave Hv := (Entails.of_eq (sems_eq (F := F) c)) $$ [Hos Hus]
  · isplitl [Hos]; · iexact Hos
    iexact Hus
  imod h $$ [Hv Hst] with Hinv
  · isplitl [Hv]; · iexact Hv
    iexact Hst
  imodintro
  isplitl [Hinv]; · iexact Hinv
  isplitl [Hat]; · iexact Hat
  iexact Htok

theorem dealt (K : Dev nD × Fin 32 → ℕ) :
    iprop(recs (inpOf m) K ∗ bigSep Finset.univ fun c : Dev nD => linear c) ⊢ bigSep Finset.univ (G' m) := by
  have h : ∀ c : Dev nD, iprop(recs (inpOf m) K ∗ linear c) ⊢ G' m c := fun c => by
    unfold G'
    iintro ⟨HR, HL⟩
    isplitl [HR]; · iexists K; iexact HR
    iexact HL
  exact (sep_mono_left (BI.bigSep_of_persistent Finset.univ (recs (inpOf m) K))).trans (by rw [← bigSep_sep']; exact bigSep_mono fun c _ => h c)

/-- All devices' cells known to all. -/
theorem regroup :
    (bigSep Finset.univ fun c : Dev nD => iprop((bigSep Finset.univ fun j => iprop(∃ κ : ℕ, cellInv ER (Rd (inpOf m)) κ (kcell (c, j))))
          ∗ ((bigSep Finset.univ fun j : Fin 32 => atPos ER (kcell (c, j)) 0 ∅ 0) ∗ (bigSep Finset.univ fun j : Fin 32 => reached ER (kcell (c, j)) 0)) ∗ toks c) : sProp 𝕄)
      ⊢ bigSep Finset.univ (G' m) := by
  rw [bigSep_sep', bigSep_sep', bigSep_sep', ← bigSep_univ_prod (fun cj : Dev nD × Fin 32 => iprop(∃ κ : ℕ, cellInv ER (Rd (inpOf m)) κ (kcell cj))),
    ← bigSep_univ_prod (fun cj : Dev nD × Fin 32 => (reached ER (kcell cj) 0 : sProp 𝕄))]
  iintro ⟨HI, ⟨Hat, HR⟩, Htok⟩
  ihave HK := (BI.bigSep_exists_pi Finset.univ (fun (cj : Dev nD × Fin 32) (κ : ℕ) => (cellInv ER (Rd (inpOf m)) κ (kcell cj) : sProp 𝕄))) $$ HI
  icases HK with ⟨%K, HI⟩
  ihave Htk := (Entails.of_eq toks_dealt) $$ Htok
  iapply (dealt m K)
  isplitl [HI HR]
  · unfold recs
    isplitl [HI]; · iexact HI
    iexact HR
  unfold linear
  rw [bigSep_sep']
  isplitl [Hat]; · iexact Hat
  iexact Htk

theorem glob : (bigSep Finset.univ fun c => iprop(os c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## Entry and exit -/

theorem start_intro (c : Dev nD) :
    iprop(Pipeline.unscopedRestP Pipeline.Prefetch.none cfg0.spec c (fun b => m ((c : Thread nD τ).loc b)) ∗ levAts L lv
        ∗ Pipeline.launchCred (fun d => owe d pays) c ∗ prngReg c (ρ c) ∗ G' m c)
      ⊢ |={Set.univ}=> iprop(start m c ∗ emp) := by
  iintro ⟨-, Hlev, Hcr, -, HG⟩
  ihave Hc := ((creds (F := F) c pays).trans (creds_all c)) $$ Hcr
  unfold G'
  icases HG with ⟨HR, HL⟩
  imodintro
  unfold start know
  isplitl
  · isplitl [Hlev HR]
    · isplitl [HR]; · iexact HR
      iexact Hlev
    iapply (ghost_intro c)
    isplitl [HL]; · iexact HL
    iexact Hc
  · iempintro

theorem scratch_eq (c : Dev nD) : (Pipeline.scopedRest cfg0.spec c : sProp 𝕄) = scratch c := scopedRest0_eq c

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scratch c) from rfl, scratch_eq]
  iintro ⟨HZ, Hr⟩
  ihave HZ := (closed_cells c) $$ HZ
  ihave HZ := (Entails.of_eq (sems_eq (F := F) c).symm) $$ HZ
  icases HZ with ⟨Ho, Hu⟩
  isplitl [Hu]; · iexact Hu
  isplitl [Ho]; · iexact Ho
  iexact Hr

theorem lv_stage : ∀ x ∈ pays, 0 < lvS x.2.1 := by decide

theorem stage_wait (c : Dev nD) (q : DmaSem sig) (hq : q.val < 6) (O : CellTallies nD τ sig Unit) (hO : O = owe c pays ∨ O = owe c []) :
    (levAts L lv : sProp 𝕄) ⊢ MayWait (c : Thread nD τ) (.dma q) () O := by
  have h0 : lvS (.dma q) = 0 := if_pos hq
  rcases hO with rfl | rfl
  · exact mayWait_owe c _ pays (by rw [h0]; exact lv_stage)
  · exact mayWait_owe c _ [] (fun x hx => absurd hx (List.not_mem_nil))

theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide) _ (by
      rcases t with ⟨_ | _, ht⟩
      · exact Or.inl rfl
      · exact Or.inr rfl)

/-! ## The run -/

/-- The arrays after the run. -/
def fin (c : Dev nD) (w : Fin cfg0.W) : Buf (Elt F) ((cfg0.win w).arr.view.loc (c : Thread nD τ)) := (dats m ρ 0 c).arrAt w cfg0.N

def Ran : PUnit × MemSt nD τ sig (Elt F) → Prop := fun r =>
  ∀ c : Dev nD, ∀ w : Fin cfg0.W, r.2.mem ((cfg0.win w).arr.view.loc (c : Thread nD τ)) = fin m ρ c w

set_option maxRecDepth 100000 in
/-- On all devices at once, from any memory: the program ends, its arrays hold what the proof data say, and every counter is back at zero. -/
theorem run_main : θ_run defs (onTc (τ := τ) (main (F := F))) (mem₀ m ρ) (fun r => Ran m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe d pays) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are kept. -/
theorem fin_in (c : Dev nD) : ∀ w : Fin 6, w.val < 5 → fin m ρ c w = (mem₀ m ρ).mem ((cfg0.win w).arr.view.loc (c : Thread nD τ))
  | 0, _ => (dats (F := F) m ρ 0 c).arrAt_in (0 : Fin 6) rfl _
  | 1, _ => (dats (F := F) m ρ 0 c).arrAt_in (1 : Fin 6) rfl _
  | 2, _ => (dats (F := F) m ρ 0 c).arrAt_in (2 : Fin 6) rfl _
  | 3, _ => (dats (F := F) m ρ 0 c).arrAt_in (3 : Fin 6) rfl _
  | 4, _ => (dats (F := F) m ρ 0 c).arrAt_in (4 : Fin 6) rfl _
  | 5, h => absurd h (by decide)

/-- The result array, read as one block, is the result. -/
theorem fin_out (c : Dev nD) : (win0_5.blk (0 : Fin 1)).view.read (Elt F) (fin m ρ c (5 : Fin 6)) = outV (inpOf m) := by
  unfold fin
  rw [show cfg0.N = ((0 : Fin 1) : Fin cfg0.N).val + 1 from rfl, (dats m ρ 0 c).arrAt_succ (5 : Fin 6) (0 : Fin 1)]
  rw [show (cfg0.win (5 : Fin 6)).flush (0 : Fin 1) = true from flush0_5 t0_0, if_pos rfl]
  exact View.read_write_univ _ _

/-- The program's run: the result on every device, every argument kept, every counter at zero. -/
theorem ran : θ_run defs (onTc (τ := τ) (main (F := F))) (mem₀ m ρ) (fun r =>
    (∀ c : Dev nD, r.2.mem ((c : Thread nD τ).loc main_v1) = outV (inpOf m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) := by
  refine (θ_run defs _ _).mono (fun r h => ⟨fun c => ⟨(h.1 c 5).trans ?_, (h.1 c 0).trans (fin_in m ρ c 0 (by decide)), (h.1 c 1).trans (fin_in m ρ c 1 (by decide)),
    (h.1 c 2).trans (fin_in m ρ c 2 (by decide)), (h.1 c 3).trans (fin_in m ρ c 3 (by decide)), (h.1 c 4).trans (fin_in m ρ c 4 (by decide))⟩, h.2⟩) (run_main m ρ)
  have hr := fun f => Memref.read_access_unit_zero (Elt F) main_v1 (show (fun a => (win0_5.index (0 : Fin 1)) a * main_v1.ty.shape.size a) = fun _ => 0 from
    funext fun a => by fin_cases a <;> decide) (fun a => by fin_cases a <;> decide) f
  have ho := fin_out m ρ c
  rw [show (win0_5.blk (0 : Fin 1)).view.read (Elt F) (fin m ρ c (5 : Fin 6)) = fin m ρ c (5 : Fin 6) from hr _] at ho
  exact ho

end Cert.KernelIdeal.K

end
-- ==== Proof.KernelIdeal.Soft.lean ====
/-
  Softmax sums over a set of keys, on the extended reals: what each sum is, how the sums of two disjoint sets merge, and
  how a scale moves through a score.
-/
module

public import Idealize.ShloMosaic.PureOps.Ideal
public import Mathlib.Data.EReal.Operations
public import Mathlib.Algebra.BigOperators.Group.Finset.Basic

@[expose] public section

noncomputable section

namespace Cert.KernelIdeal.K

open Idealize.ShloMosaic

variable {ι κ : Type}

/-- A score less a bound of it has an exponential that is finite and not negative. -/
theorem exp_range {s m : EReal} (h : s ≤ m) : 0 ≤ Ideal.exp (s - m) ∧ Ideal.exp (s - m) ≠ ⊤ := by
  induction m using EReal.rec with
  | bot => obtain rfl := le_bot_iff.mp h; simp
  | top => simp [sub_eq_add_neg]
  | coe m =>
    induction s using EReal.rec with
    | bot => simp [sub_eq_add_neg]
    | top => exact absurd h (by simp)
    | coe s =>
      rw [← EReal.coe_sub, Ideal.exp_coe]
      exact ⟨by exact_mod_cast (Real.exp_pos _).le, EReal.coe_ne_top _⟩

/-- Rebasing: the exponential against a bound, times that of the bound against a greater one, is the exponential against
the greater one. -/
theorem exp_rebase {s a m : EReal} (h : s ≤ a) (h' : a ≤ m) : Ideal.exp (s - a) * Ideal.exp (a - m) = Ideal.exp (s - m) := by
  induction m using EReal.rec with
  | bot => obtain rfl := le_bot_iff.mp h'; obtain rfl := le_bot_iff.mp h; simp
  | top => simp [sub_eq_add_neg]
  | coe m =>
    induction a using EReal.rec with
    | bot => obtain rfl := le_bot_iff.mp h; simp [sub_eq_add_neg]
    | top => exact absurd h' (by simp)
    | coe a =>
      induction s using EReal.rec with
      | bot => simp [sub_eq_add_neg]
      | top => exact absurd h (by simp)
      | coe s =>
        rw [← EReal.coe_sub, ← EReal.coe_sub, ← EReal.coe_sub, Ideal.exp_coe, Ideal.exp_coe, Ideal.exp_coe, ← EReal.coe_mul,
          ← Real.exp_add]
        congr 2; ring

/-- A finite factor that is not negative goes inside a sum. -/
theorem sum_mul_fin (D : Finset ι) (f : ι → EReal) {r : EReal} (h0 : 0 ≤ r) (h1 : r ≠ ⊤) : (∑ i ∈ D, f i) * r = ∑ i ∈ D, f i * r := by
  classical
  induction D using Finset.induction_on with
  | empty => simp
  | insert a D ha ih => rw [Finset.sum_insert ha, Finset.sum_insert ha, EReal.right_distrib_of_nonneg_of_ne_top h0 h1, ih]

/-- The greatest score of a set of keys. -/
def smax (s : ι → EReal) (D : Finset ι) : EReal := D.sup s
/-- The values of a set of keys weighted by the exponentials of their scores less the greatest. -/
def sacc (s v : ι → EReal) (D : Finset ι) : EReal := ∑ i ∈ D, Ideal.exp (s i - smax s D) * v i
/-- The sum of those exponentials. -/
def sden (s : ι → EReal) (D : Finset ι) : EReal := ∑ i ∈ D, Ideal.exp (s i - smax s D)

theorem sden_eq (s : ι → EReal) (D : Finset ι) : sden s D = sacc s (fun _ => 1) D :=
  Finset.sum_congr rfl fun _ _ => (mul_one _).symm

/-- A part of a set's weighted values, rebased to a greater maximum. -/
theorem sacc_rebase (s v : ι → EReal) (D : Finset ι) {m : EReal} (h : smax s D ≤ m) :
    sacc s v D * Ideal.exp (smax s D - m) = ∑ i ∈ D, Ideal.exp (s i - m) * v i := by
  unfold sacc
  rw [sum_mul_fin D _ (exp_range h).1 (exp_range h).2]
  refine Finset.sum_congr rfl fun i hi => ?_
  rw [mul_right_comm, exp_rebase (show s i ≤ smax s D from Finset.le_sup hi) h]

/-- The greatest score of two sets together. -/
theorem smax_union [DecidableEq ι] (s : ι → EReal) (D E : Finset ι) : smax s (D ∪ E) = max (smax s D) (smax s E) :=
  Finset.sup_union

/-- The weighted values of two disjoint sets merge. -/
theorem sacc_union [DecidableEq ι] (s v : ι → EReal) {D E : Finset ι} (h : Disjoint D E) :
    sacc s v (D ∪ E) = sacc s v D * Ideal.exp (smax s D - max (smax s D) (smax s E))
      + sacc s v E * Ideal.exp (smax s E - max (smax s D) (smax s E)) := by
  rw [sacc_rebase s v D (le_max_left _ _), sacc_rebase s v E (le_max_right _ _), ← Finset.sum_union h, ← smax_union]
  rfl

/-- The sums of exponentials of two disjoint sets merge. -/
theorem sden_union [DecidableEq ι] (s : ι → EReal) {D E : Finset ι} (h : Disjoint D E) :
    sden s (D ∪ E) = sden s D * Ideal.exp (smax s D - max (smax s D) (smax s E))
      + sden s E * Ideal.exp (smax s E - max (smax s D) (smax s E)) := by
  rw [sden_eq, sden_eq, sden_eq, sacc_union s _ h]

/-- Keys named otherwise: the three quantities of the image are those of the set. -/
theorem smax_map (s : κ → EReal) (e : ι ↪ κ) (D : Finset ι) : smax s (D.map e) = smax (fun i => s (e i)) D := Finset.sup_map D e s
theorem sacc_map (s v : κ → EReal) (e : ι ↪ κ) (D : Finset ι) : sacc s v (D.map e) = sacc (fun i => s (e i)) (fun i => v (e i)) D := by
  unfold sacc; rw [Finset.sum_map, smax_map]
theorem sden_map (s : κ → EReal) (e : ι ↪ κ) (D : Finset ι) : sden s (D.map e) = sden (fun i => s (e i)) D := by
  rw [sden_eq, sden_eq, sacc_map]

/-- A scale that is finite and not negative may multiply one side of a score or the score. -/
theorem sum_scale (D : Finset ι) (q k : ι → EReal) {r : EReal} (h0 : 0 ≤ r) (h1 : r ≠ ⊤) : ∑ i ∈ D, (q i * r) * k i = (∑ i ∈ D, q i * k i) * r := by
  rw [sum_mul_fin D _ h0 h1]
  exact Finset.sum_congr rfl fun i _ => mul_right_comm _ _ _

/-- A maximum taken by a fold from the least number. -/
theorem fold_max_bot (D : Finset ι) (f : ι → EReal) : D.fold max ⊥ f = D.sup f := rfl

end Cert.KernelIdeal.K
-- ==== Proof.KernelIdeal.Heads.lean ====
/-
  One device's attention of one head, on the extended reals: its scores, their greatest, the sum of their exponentials
  and the values weighted by them.
-/
module

public import proofs.«01_k».proof.Proof.KernelIdeal.Contents
public import proofs.«01_k».proof.Proof.KernelIdeal.Soft
public import Idealize.ShloMosaic.Lib.Pointwise

@[expose] public section

noncomputable section

namespace Cert.KernelIdeal.K

open Idealize.ShloMosaic
open Cert.KernelIdeal Cert.KernelIdeal.Gen

/-- The column of head `h` at position `e`. -/
def colOf (h : Fin 8) (e : Fin 128) : Fin 1024 := ⟨128 * h.val + e.val, by omega⟩

/-- A score: the product of a query's row with a key's, over one head. -/
def score (q : FVec Ideal S512x1024 .f32) (k : Vec Ideal S1x2048x8x128 .bf16) (i : Fin 512) (h : Fin 8) (j : Fin 2048) : EReal :=
  ∑ e : Fin 128, q (ix2 i (colOf h e)) * k (ix4 0 j h e)

section
variable (q : FVec Ideal S512x1024 .f32) (h : Fin 8) (k v : Vec Ideal S1x2048x8x128 .bf16)

/-- The word of the least number. -/
theorem word_bot : Ideal.ofBits FTy.f32 0xFF800000#32 = ⊥ := by simp [Ideal.ofBits, Ideal.ieee]

/-- A head's scores. -/
theorem headS_apply (i : Fin 512) (j : Fin 2048) : headS q h (kvOf k h) (ix2 i j) = score q k i h j := by
  pointwise [headS, kvOf]
  rfl

/-- Their greatest. -/
theorem headM_apply (i : Fin 512) : headM q h (kvOf k h) (ix2 i 0) = smax (score q k i h) Finset.univ := by
  pointwise [headM]
  rw [word_bot, fold_max_bot]
  exact congrArg (Finset.sup Finset.univ) (funext fun j => headS_apply q h k i j)

/-- The sum of their exponentials. -/
theorem headL_apply (i : Fin 512) : headL q h (kvOf k h) (ix2 i 0) = sden (score q k i h) Finset.univ := by
  pointwise [headL, headP]
  rw [headM_apply]
  exact Finset.sum_congr rfl fun j _ => by rw [headS_apply]

/-- The values weighted by them. -/
theorem headA_apply (i : Fin 512) (e : Fin 128) :
    headA q h (kvOf k h) (kvOf v h) (ix2 i e) = sacc (score q k i h) (fun j => v (ix4 0 j h e)) Finset.univ := by
  pointwise [headA, headP, kvOf]
  exact Finset.sum_congr rfl fun j _ => by rw [← headS_apply, ← headM_apply]

end

/-- The kernel's constant is one over the root of the head's width. -/
theorem scale_named : Named.named (F := Ideal) κ "scale" (φ := .f32) 0x3DB504F3#32 = (((Real.sqrt 128)⁻¹ : ℝ) : EReal) :=
  IdealRules.named_const.ideal_named_scalar _ _ _ _ rfl

/-- The queries, scaled. -/
theorem qOf_apply (x : Vec Ideal S1x512x1024 .bf16) (wq : Vec Ideal S1024x1024 .bf16) (i : Fin 512) (j : Fin 1024) :
    qOf x wq (ix2 i j) = (∑ a : Fin 1024, x (ix3 0 i a) * wq (ix2 a j)) * (((Real.sqrt 128)⁻¹ : ℝ) : EReal) := by
  rw [← scale_named]
  pointwise [qOf, k0_pay1, k0_pay2, k0_pay3]

end Cert.KernelIdeal.K
-- ==== Proof.KernelIdeal.Groups.lean ====
/-
  The reduce-scatter on the extended reals: after each round a device holds, for the rows it keeps, the softmax sums over
  the keys of a group of devices, and after the last one those over all of them.
-/
module

public import proofs.«01_k».proof.Proof.KernelIdeal.Heads
public import proofs.«01_k».proof.Proof.KernelIdeal.Round

@[expose] public section

noncomputable section

namespace Cert.KernelIdeal.K

open Idealize.ShloMosaic
open Cert.KernelIdeal Cert.KernelIdeal.Gen

variable (I : Inp Ideal)

/-- A key of the whole sequence: the device that holds it and its position there. -/
abbrev Key : Type := Dev nD × Fin 2048

/-- The score of a key, as its device computes it. -/
def sc (i : Fin 512) (h : Fin 8) (p : Key) : EReal := score (qOf (I.x p.1) (I.wq p.1)) (I.k p.1) i h p.2
/-- The value of a key. -/
def va (h : Fin 8) (e : Fin 128) (p : Key) : EReal := I.v p.1 (ix4 0 p.2 h e)

/-- The spacing of a group's devices after `n` rounds. -/
def gap (n : ℕ) : ℕ := 2 ^ (5 - n)
/-- The devices of `c`'s group after `n` rounds. -/
def devs (n : ℕ) (c : Dev nD) : Finset (Dev nD) := Finset.univ.filter fun d => d.val % gap n = c.val % gap n
/-- The keys of `c`'s group. -/
def grp (n : ℕ) (c : Dev nD) : Finset Key := devs n c ×ˢ Finset.univ

theorem devs_zero : ∀ c : Dev nD, devs 0 c = {c} := by decide +kernel
theorem devs_five : ∀ c : Dev nD, devs 5 c = Finset.univ := by decide +kernel
/-- A round joins a device's group and its partner's. -/
theorem devs_succ : ∀ (t : Fin 5) (c : Dev nD), devs (t.val + 1) c = devs t.val c ∪ devs t.val (par t c) := by decide +kernel
theorem devs_disjoint : ∀ (t : Fin 5) (c : Dev nD), Disjoint (devs t.val c) (devs t.val (par t c)) := by decide +kernel
/-- The partner kept the same rows before the round. -/
theorem par_keeps : ∀ (t : Fin 5) (c : Dev nD), (par t c).val / gap t.val = c.val / gap t.val := by decide +kernel

/-- One device's keys among all. -/
def mine (c : Dev nD) : Fin 2048 ↪ Key := ⟨fun j => (c, j), fun _ _ h => (Prod.mk.inj h).2⟩
theorem sc_mine (c : Dev nD) (i : Fin 512) (h : Fin 8) :
    (fun j => sc I i h (mine c j)) = score (qOf (I.x c) (I.wq c)) (I.k c) i h := rfl
theorem va_mine (c : Dev nD) (h : Fin 8) (e : Fin 128) : (fun j => va I h e (mine c j)) = fun j => I.v c (ix4 0 j h e) := rfl

theorem grp_zero (c : Dev nD) : grp 0 c = Finset.univ.map (mine c) := by
  ext ⟨d, j⟩
  simp only [grp, devs_zero, Finset.mem_product, Finset.mem_singleton, Finset.mem_univ, and_true, Finset.mem_map, true_and, mine, Function.Embedding.coeFn_mk]
  exact ⟨fun h => ⟨j, Prod.ext h.symm rfl⟩, fun ⟨_, h⟩ => (Prod.mk.inj h).1.symm⟩
theorem grp_five (c : Dev nD) : grp 5 c = Finset.univ := by simp [grp, devs_five]
theorem grp_succ (t : Fin 5) (c : Dev nD) : grp (t.val + 1) c = grp t.val c ∪ grp t.val (par t c) := by
  unfold grp; rw [devs_succ, Finset.union_product]
theorem grp_disjoint (t : Fin 5) (c : Dev nD) : Disjoint (grp t.val c) (grp t.val (par t c)) :=
  Finset.disjoint_product.mpr (Or.inl (devs_disjoint t c))

/-- Row `i` is among those device `c` holds after `n` rounds. -/
abbrev Holds (n : ℕ) (c : Dev nD) (i : Fin 512) : Prop := c.val / gap n = i.val / 16 / gap n

/-- The rows held after a round are those kept in it, and were held before it. -/
theorem holds_keeps (t : Fin 5) (c : Dev nD) (i : Fin 512) (h : Holds (t.val + 1) c i) : Keeps t.val c i.val ∧ Holds t.val c i := by
  have hc : c.val < 32 := c.isLt
  have hi := i.isLt
  revert h
  unfold Holds Keeps keepB half gap pw
  match t with
  | ⟨0, _⟩ => norm_num; omega
  | ⟨1, _⟩ => norm_num; omega
  | ⟨2, _⟩ => norm_num; omega
  | ⟨3, _⟩ => norm_num; omega
  | ⟨4, _⟩ => norm_num; omega

/-- What device `c` holds of row `i` after `n` rounds: its group's greatest scores, sums and weighted values. -/
structure Held (n : ℕ) (c : Dev nD) (i : Fin 512) : Prop where
  m : ∀ h : Fin 8, (cont I n).2 c (ix3 0 i h) = smax (sc I i h) (grp n c)
  l : ∀ h : Fin 8, (cont I n).2 c (ix3 1 i h) = sden (sc I i h) (grp n c)
  a : ∀ (h : Fin 8) (e : Fin 128), (cont I n).1 c (ix2 i (colOf h e)) = sacc (sc I i h) (va I h e) (grp n c)

theorem hd_col (i : Fin 512) (h : Fin 8) (e : Fin 128) : hd (ix2 i (colOf h e)) = h :=
  Fin.ext (by show (128 * h.val + e.val) / 128 = h.val; have := e.isLt; omega)

theorem inHd_col (i : Fin 512) (h : Fin 8) (e : Fin 128) : inHd (ix2 i (colOf h e)) = ix2 i e := by
  rw [ix2_eq_valueIdx i e]
  exact congrArg (ValueIdx.ix2 i) (Fin.ext (by show (128 * h.val + e.val) % 128 = e.val; have := e.isLt; omega))

theorem mxOf_col (i : Fin 512) (h : Fin 8) (e : Fin 128) : mxOf (ix2 i (colOf h e)) = ix3 0 i h := by
  rw [ix3_eq_valueIdx]
  exact congrArg (ValueIdx.ix3 (0 : Fin 2) i) (hd_col i h e)

theorem mxAt_ix (p : Fin 2) (i : Fin 512) (h : Fin 8) : mxAt (ix3 p i h) = ix3 0 i h := by
  rw [ix3_eq_valueIdx (0 : Fin 2) i h]; unfold mxAt; rfl

/-- The two planes of the local statistics. -/
theorem locS_m (q : FVec Ideal S512x1024 .f32) (k : Vec Ideal S1x2048x8x128 .bf16) (i : Fin 512) (h : Fin 8) :
    locS q k (ix3 0 i h) = headM q h (kvOf k h) (ix2 i 0) := by
  rw [ix2_eq_valueIdx]; unfold locS; exact if_pos rfl
theorem locS_l (q : FVec Ideal S512x1024 .f32) (k : Vec Ideal S1x2048x8x128 .bf16) (i : Fin 512) (h : Fin 8) :
    locS q k (ix3 1 i h) = headL q h (kvOf k h) (ix2 i 0) := by
  rw [ix2_eq_valueIdx]; unfold locS; exact if_neg (by show ¬ (1 : ℕ) = 0; decide)

/-- The contents before the first round. -/
theorem cont_zero_S (c : Dev nD) : (cont I 0).2 c = locS (qOf (I.x c) (I.wq c)) (I.k c) := rfl
theorem cont_zero_A (c : Dev nD) : (cont I 0).1 c = locA (qOf (I.x c) (I.wq c)) (I.k c) (I.v c) := rfl

/-- Before the first round every device holds its own keys' attention. -/
theorem held_zero (c : Dev nD) (i : Fin 512) : Held I 0 c i where
  m h := by
    rw [grp_zero, smax_map, sc_mine, ← headM_apply, cont_zero_S, locS_m]
  l h := by
    rw [grp_zero, sden_map, sc_mine, ← headL_apply, cont_zero_S, locS_l]
  a h e := by
    rw [grp_zero, sacc_map, sc_mine, va_mine, ← headA_apply, cont_zero_A]
    show headA _ (hd (ix2 i (colOf h e))) (kvOf _ (hd (ix2 i (colOf h e)))) (kvOf _ (hd (ix2 i (colOf h e)))) (inHd (ix2 i (colOf h e))) = _
    rw [hd_col, inHd_col]

/-- A round merges the partner's group into the device's. -/
theorem held_succ (t : Fin 5) (c : Dev nD) (i : Fin 512) (hk : Keeps t.val c i.val) (hc : Held I t.val c i) (hp : Held I t.val (par t c) i) :
    Held I (t.val + 1) c i where
  m h := by
    rw [grp_succ, smax_union, ← hc.m, ← hp.m, cont_succ_S]
    exact (if_pos hk).trans (if_pos rfl)
  l h := by
    rw [grp_succ, sden_union _ (grp_disjoint t c), ← hc.m, ← hp.m, ← hc.l, ← hp.l, cont_succ_S]
    refine (if_pos hk).trans ((if_neg (by show ¬ (1 : ℕ) = 0; decide)).trans ?_)
    rw [mxAt_ix]; rfl
  a h e := by
    rw [grp_succ, sacc_union _ _ (grp_disjoint t c), ← hc.m, ← hp.m, ← hc.a, ← hp.a, cont_succ_A]
    refine (if_pos hk).trans ?_
    unfold updA
    rw [mxOf_col]; rfl

/-- After `n` rounds a device holds its group's sums of the rows it keeps. -/
theorem held : ∀ n ≤ 5, ∀ (c : Dev nD) (i : Fin 512), Holds n c i → Held I n c i
  | 0, _, c, i, _ => held_zero I c i
  | n + 1, hn, c, i, h => by
    obtain ⟨hk, hh⟩ := holds_keeps ⟨n, hn⟩ c i h
    exact held_succ I ⟨n, hn⟩ c i hk (held n (by omega) c i hh)
      (held n (by omega) _ i ((par_keeps ⟨n, hn⟩ c).trans hh))

/-- After the last round the device that finishes a row holds its sums over every key. -/
theorem held_all (i : Fin 512) : Held I 5 (own i) i := held I 5 le_rfl (own i) i (by show i.val / 16 / gap 5 = _; rfl)

end Cert.KernelIdeal.K
-- ==== Proof.KernelIdeal.Ref.lean ====
/-
  The reference on the extended reals, index by index: the queries' projection, the scores, their greatest, the
  exponentials, their sums, the weighted values, and the output's projection.
-/
module

public import proofs.«01_k».proof.Proof.Gen.ReferenceIdeal.Run
public import proofs.«01_k».proof.Proof.KernelIdeal.Soft
public import Idealize.ShloMosaic.Lib.Pointwise

@[expose] public section

noncomputable section

namespace Cert.ReferenceIdeal.Value

open Idealize.ShloMosaic Idealize.ShloMosaic.TcCoe
open Cert.ReferenceIdeal Cert.ReferenceIdeal.Gen

section
variable (x : FVec Ideal S1x512x1024 .bf16) (wq wo : FVec Ideal S1024x1024 .bf16) (k v : FVec Ideal S1x65536x8x128 .bf16)

/-- The queries. -/
def refQ : FVec Ideal S512x8x128 .f32 :=
  shapeCast S512x8x128 (extf .f32 (truncf .bf16 (Host.dotGeneral dot_S512x1024_S1024x1024_S512x1024_1_0_0_1_n_n none (extf .f32 (shapeCast S512x1024 x shapeCasts_S1x512x1024_S512x1024) bitsLt_bf16_f32) (extf .f32 wq bitsLt_bf16_f32)) bitsLt_bf16_f32) bitsLt_bf16_f32) shapeCasts_S512x1024_S512x8x128
/-- The keys, or the values. -/
def refKV : FVec Ideal S65536x8x128 .f32 := extf .f32 (shapeCast S65536x8x128 k shapeCasts_S1x65536x8x128_S65536x8x128) bitsLt_bf16_f32
/-- The scores. -/
def refS : FVec Ideal S8x512x65536 .f32 :=
  Host.divf (extf .f32 (truncf .bf16 (Host.dotGeneral dot_S512x8x128_S65536x8x128_S8x512x65536_2_2_0_0_1_1 none (refQ x wq) (refKV k)) bitsLt_bf16_f32) bitsLt_bf16_f32)
    (broadcastInDim S8x512x65536 ![] bcast_S_S8x512x65536 (Host.sqrt (constant S_ .f32 0x43000000#32)))
/-- The exponentials of the scores less their row's greatest. -/
def refP : FVec Ideal S8x512x65536 .f32 :=
  Host.exp (subf (refS x wq k) (broadcastInDim S8x512x65536 ![0, 1, 2] bcast_S8x512x1_S8x512x65536_0_1_2 (broadcastInDim S8x512x1 ![0, 1] bcast_S8x512_S8x512x1_0_1
    (Host.reduce FloatOps.maximumf (refS x wq k) (constant S_ .f32 0xFF800000#32) reducesTo_S8x512x65536_S8x512_d2 h_S_))))
/-- The attention, by row, head and position. -/
def refO : FVec Ideal S512x8x128 .f32 :=
  Host.divf (transpose S512x8x128 [2, 0, 1] (Host.dotGeneral dot_S65536x8x128_S8x512x65536_S8x128x512_0_2_2_1_1_0 none (refKV v) (refP x wq k)) transposes_S8x128x512_S512x8x128_2_0_1)
    (broadcastInDim S512x8x128 ![0, 1, 2] bcast_S512x8x1_S512x8x128_0_1_2 (transpose S512x8x1 [1, 0, 2] (broadcastInDim S8x512x1 ![0, 1] bcast_S8x512_S8x512x1_0_1
      (Host.reduceAdd (refP x wq k) (constant S_ .f32 0x00000000#32) reducesTo_S8x512x65536_S8x512_d2 h_S_)) transposes_S8x512x1_S512x8x1_1_0_2))
/-- The result. -/
def refOut : FVec Ideal S1x512x1024 .f32 :=
  Host.dotGeneral dot_S1x512x1024_S1024x1024_S1x512x1024_2_0_01_1_n_n none (shapeCast S1x512x1024 (refO x wq k v) shapeCasts_S512x8x128_S1x512x1024) (extf .f32 wo bitsLt_bf16_f32)

/-- The scale, one over the root of the head's width. -/
def scaleW : EReal := (((Real.sqrt 128)⁻¹ : ℝ) : EReal)

/-- The word of the head's width. -/
theorem word_width : Ideal.ofBits FTy.f32 0x43000000#32 = ((128 : ℝ) : EReal) := by
  simp [Ideal.ofBits, Ideal.ieee, -EReal.coe_mul]; norm_num

/-- To divide by the root of the head's width is to multiply by the scale. -/
theorem div_width (a : EReal) : Ideal.div a (Ideal.sqrt (Ideal.ofBits FTy.f32 0x43000000#32)) = a * scaleW := by
  rw [word_width, Ideal.sqrt_coe, if_neg (by norm_num), Ideal.div_coe (Real.sqrt_pos.mpr (by norm_num)).ne', one_div]
  rfl

theorem word_least : Ideal.ofBits FTy.f32 0xFF800000#32 = ⊥ := by simp [Ideal.ofBits, Ideal.ieee]

theorem refQ_apply (i : Fin 512) (h : Fin 8) (e : Fin 128) :
    refQ x wq (ix3 i h e) = ∑ a : Fin 1024, x (ix3 0 i a) * wq (ix2 a ⟨h.val * 128 + e.val, by omega⟩) := by
  pointwise [refQ]

theorem refS_apply (i : Fin 512) (h : Fin 8) (j : Fin 65536) :
    refS x wq k (ix3 h i j) = (∑ e : Fin 128, refQ x wq (ix3 i h e) * k (ix4 0 j h e)) * scaleW := by
  pointwise [refS, refKV]
  exact div_width _

theorem refP_apply (i : Fin 512) (h : Fin 8) (j : Fin 65536) :
    refP x wq k (ix3 h i j) = Ideal.exp (refS x wq k (ix3 h i j) - Cert.KernelIdeal.K.smax (fun j => refS x wq k (ix3 h i j)) Finset.univ) := by
  pointwise [refP]
  rw [word_least]
  rfl

/-- The attention: the weighted values over the sum of the exponentials. -/
theorem refO_apply (i : Fin 512) (h : Fin 8) (e : Fin 128) :
    refO x wq k v (ix3 i h e) = Ideal.div (Cert.KernelIdeal.K.sacc (fun j => refS x wq k (ix3 h i j)) (fun j => v (ix4 0 j h e)) Finset.univ)
      (Cert.KernelIdeal.K.sden (fun j => refS x wq k (ix3 h i j)) Finset.univ) := by
  pointwise [refO, refKV]
  exact congrArg₂ Ideal.div (Finset.sum_congr rfl fun j _ => by rw [mul_comm, refP_apply]) (Finset.sum_congr rfl fun j _ => refP_apply x wq k i h j)

theorem refOut_apply (i : Fin 512) (j : Fin 1024) :
    refOut x wq wo k v (ix3 0 i j)
      = ∑ a : Fin 1024, refO x wq k v (ix3 i ⟨a.val / 128, by omega⟩ ⟨a.val % 128, Nat.mod_lt _ (by decide)⟩) * wo (ix2 a j) := by
  pointwise [refOut]
end

/-- The composed term is these operations. -/
theorem out_eq (m : (ℓ : Loc nD τ sig) → Buf (Elt Ideal) ℓ) (c : Dev nD) :
    res_main_v31 m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v31 refOut refO refP refS refKV refQ
  rfl

end Cert.ReferenceIdeal.Value
-- ==== Proof.KernelIdeal.Final.lean ====
/-
  The result of the kernel on the extended reals, and that it is the reference's.
-/
module

public import proofs.«01_k».proof.Proof.KernelIdeal.Groups
public import proofs.«01_k».proof.Proof.KernelIdeal.Local
public import proofs.«01_k».proof.Proof.KernelIdeal.Ref

@[expose] public section

noncomputable section

namespace Cert.KernelIdeal.K

open Idealize.ShloMosaic
open Cert.KernelIdeal Cert.KernelIdeal.Gen

/-- The output is the gathered rows. -/
theorem outV_apply (I : Inp Ideal) (i : Fin 512) (j : Fin 1024) : outV I (ix3 0 i j) = outG I (ix2 i j) := by
  pointwise [outV, k0_pay245]

/-- The rows one device finishes: each head's weighted values over its sums, projected. -/
theorem finPay_apply (a : Vec Ideal S16x1024 .f32) (l : Vec Ideal S1x16x8 .f32) (wo : Vec Ideal S1024x1024 .bf16) (r : Fin 16) (j : Fin 1024) :
    finPay a l wo (ix2 r j) = ∑ z : Fin 1024, Ideal.div (a (ix2 r z)) (l (ix3 0 r ⟨z.val / 128, by omega⟩)) * wo (ix2 z j) := by
  pointwise [finPay, k0_pay236, k0_pay237, k0_pay238, k0_pay239, k0_pay240, k0_pay241, k0_pay242, k0_pay243, k0_pay244]
  have at_ : ∀ (z z' : Fin 1024) (h h' : Fin 8), z'.val = z.val → h'.val = h.val →
      Ideal.div (a (ix2 r z')) (l (ix3 0 r h')) = Ideal.div (a (ix2 r z)) (l (ix3 0 r h)) := fun z z' h h' e e' => by
    rw [Fin.ext e, Fin.ext e']
  refine Finset.sum_congr rfl fun z _ => congrArg (· * wo (ix2 z j)) ?_
  have hz := z.isLt
  split_ifs <;> exact at_ _ _ _ _ (by first | rfl | (dsimp only; omega)) (by first | omega | (simp only [Fin.isValue]; omega))

/-- A row of the gathered result. -/
theorem outG_apply (I : Inp Ideal) (i : Fin 512) (j : Fin 1024) :
    outG I (ix2 i j) = ∑ z : Fin 1024, Ideal.div
        (sacc (sc I i ⟨z.val / 128, by omega⟩) (va I ⟨z.val / 128, by omega⟩ ⟨z.val % 128, Nat.mod_lt _ (by decide)⟩) Finset.univ)
        (sden (sc I i ⟨z.val / 128, by omega⟩) Finset.univ) * I.wo (own i) (ix2 z j) := by
  have hr : row (16 * (own i).val + i.val % 16) = i := Fin.ext (by
    show (16 * (i.val / 16) + i.val % 16) % 512 = i.val; have := i.isLt; omega)
  have e1 : outG I (ix2 i j) = finPay (finA I (own i)) (finL I (own i)) (I.wo (own i)) (ix2 (⟨i.val % 16, Nat.mod_lt _ (by decide)⟩ : Fin 16) j) := by
    rw [ix2_eq_valueIdx (⟨i.val % 16, Nat.mod_lt _ (by decide)⟩ : Fin 16) j]; rfl
  rw [e1, finPay_apply]
  refine Finset.sum_congr rfl fun z _ => congrArg (· * I.wo (own i) (ix2 z j)) ?_
  refine congrArg₂ Ideal.div ?_ ?_
  · rw [← grp_five (own i), ← (held_all I i).a]
    show (cont I 5).1 (own i) (ValueIdx.ix2 (row (16 * (own i).val + i.val % 16)) z) = _
    rw [hr, ← ix2_eq_valueIdx]
    exact congrArg (fun z => (cont I 5).1 (own i) (ix2 i z)) (Fin.ext (by show z.val = 128 * (z.val / 128) + z.val % 128; omega))
  · rw [← grp_five (own i), ← (held_all I i).l]
    show (cont I 5).2 (own i) (ValueIdx.ix3 1 (row (16 * (own i).val + i.val % 16)) (⟨z.val / 128, by omega⟩ : Fin 8)) = _
    rw [hr, ← ix3_eq_valueIdx]

/-- A key's place in the whole sequence. -/
def place : Key ≃ Fin 65536 where
  toFun p := ⟨2048 * p.1.val + p.2.val, by have : p.1.val < 32 := p.1.isLt; have := p.2.isLt; omega⟩
  invFun n := (⟨n.val / 2048, by have := n.isLt; show _ < 32; omega⟩, ⟨n.val % 2048, Nat.mod_lt _ (by decide)⟩)
  left_inv p := Prod.ext (Fin.ext (by have := p.2.isLt; show (2048 * p.1.val + p.2.val) / 2048 = p.1.val; omega))
    (Fin.ext (by have := p.2.isLt; show (2048 * p.1.val + p.2.val) % 2048 = p.2.val; omega))
  right_inv n := Fin.ext (by show 2048 * (n.val / 2048) + n.val % 2048 = n.val; omega)

/-- The scale is finite and not negative. -/
theorem scale_range : 0 ≤ Cert.ReferenceIdeal.Value.scaleW ∧ Cert.ReferenceIdeal.Value.scaleW ≠ ⊤ := by
  exact ⟨EReal.coe_nonneg.mpr (inv_nonneg.mpr (Real.sqrt_nonneg _)), EReal.coe_ne_top _⟩

section
variable (I : Inp Ideal) (x : FVec Ideal S1x512x1024 .bf16) (wq wo : FVec Ideal S1024x1024 .bf16)
  (k v : FVec Ideal Cert.ReferenceIdeal.S1x65536x8x128 .bf16)

/-- Every device holds the same weights and queries' input, and its own stretch of the keys and values. -/
structure Splits : Prop where
  x : ∀ c, I.x c = x
  wq : ∀ c, I.wq c = wq
  wo : ∀ c, I.wo c = wo
  k : ∀ (p : Key) (h : Fin 8) (e : Fin 128), I.k p.1 (ix4 0 p.2 h e) = k (ix4 0 (place p) h e)
  v : ∀ (p : Key) (h : Fin 8) (e : Fin 128), I.v p.1 (ix4 0 p.2 h e) = v (ix4 0 (place p) h e)

variable {I x wq wo k v}

/-- A key's score is the reference's at its place. -/
theorem sc_eq (H : Splits I x wq wo k v) (i : Fin 512) (h : Fin 8) (p : Key) :
    sc I i h p = Cert.ReferenceIdeal.Value.refS x wq k (ix3 h i (place p)) := by
  rw [Cert.ReferenceIdeal.Value.refS_apply, ← sum_scale _ _ _ scale_range.1 scale_range.2]
  unfold sc score
  refine Finset.sum_congr rfl fun e _ => ?_
  rw [H.x, H.wq, H.k, qOf_apply, Cert.ReferenceIdeal.Value.refQ_apply]
  have : colOf h e = ⟨h.val * 128 + e.val, by omega⟩ := Fin.ext (by show 128 * h.val + e.val = h.val * 128 + e.val; omega)
  rw [this]; rfl

/-- The kernel's result is the reference's. -/
theorem value (H : Splits I x wq wo k v) : outV I = Cert.ReferenceIdeal.Value.refOut x wq wo k v := by
  funext y
  obtain ⟨i, j, rfl⟩ : ∃ (i : Fin 512) (j : Fin 1024), y = ix3 0 i j := ⟨y 1, y 2, by
    funext a; match a with
    | ⟨0, _⟩ => exact Subsingleton.elim (α := Fin 1) _ _
    | ⟨1, _⟩ => rfl
    | ⟨2, _⟩ => rfl⟩
  rw [outV_apply, outG_apply, Cert.ReferenceIdeal.Value.refOut_apply]
  refine Finset.sum_congr rfl fun z _ => ?_
  rw [Cert.ReferenceIdeal.Value.refO_apply, ← Finset.map_univ_equiv place, sacc_map, sden_map, H.wo]
  have es : ∀ h, sc I i h = fun p => Cert.ReferenceIdeal.Value.refS x wq k (ix3 h i (place p)) := fun h => funext (sc_eq H i h)
  have ev : ∀ h e, va I h e = fun p => v (ix4 0 (place p) h e) := fun h e => funext fun p => H.v p h e
  rw [es, ev]; rfl

end

end Cert.KernelIdeal.K
-- ==== Proof.KernelIdeal.Value.lean ====
/-
  The inputs as the kernel reads them are the arguments, and with each device's keys and values its stretch of the whole,
  the kernel's result is the reference's.
-/
module

public import proofs.«01_k».proof.Proof.KernelIdeal.Launch
public import proofs.«01_k».proof.Proof.KernelIdeal.Final
public import Idealize.ShloMosaic.Lib.Layout

@[expose] public section

noncomputable section

namespace Cert.KernelIdeal.K

open Idealize.ShloMosaic Idealize.ShloMosaic.TcCoe
open Cert.KernelIdeal Cert.KernelIdeal.Gen

section
variable {F : FTy → Type} [FloatOps F] [Named F] (m : (ℓ : Loc nD τ sig) → Buf (Elt F) ℓ) (c : Dev nD)

/-- Each input is the argument. -/
theorem inp_x : (inpOf m).x c = m ((c : Thread nD τ).loc main_arg0) := by
  have hr := fun f => Memref.read_access_unit_zero (Elt F) main_arg0 (show (fun a => (win0_0.index (0 : Fin 1)) a * main_arg0.ty.shape.size a) = fun _ => 0 from funext fun a => by fin_cases a <;> decide) (fun a => by fin_cases a <;> decide) f
  exact hr _
theorem inp_wq : (inpOf m).wq c = m ((c : Thread nD τ).loc main_arg1) := by
  have hr := fun f => Memref.read_access_unit_zero (Elt F) main_arg1 (show (fun a => (win0_1.index (0 : Fin 1)) a * main_arg1.ty.shape.size a) = fun _ => 0 from funext fun a => by fin_cases a <;> decide) (fun a => by fin_cases a <;> decide) f
  exact hr _
theorem inp_wo : (inpOf m).wo c = m ((c : Thread nD τ).loc main_arg2) := by
  have hr := fun f => Memref.read_access_unit_zero (Elt F) main_arg2 (show (fun a => (win0_2.index (0 : Fin 1)) a * main_arg2.ty.shape.size a) = fun _ => 0 from funext fun a => by fin_cases a <;> decide) (fun a => by fin_cases a <;> decide) f
  exact hr _
theorem inp_k : (inpOf m).k c = m ((c : Thread nD τ).loc main_arg3) := by
  have hr := fun f => Memref.read_access_unit_zero (Elt F) main_arg3 (show (fun a => (win0_3.index (0 : Fin 1)) a * main_arg3.ty.shape.size a) = fun _ => 0 from funext fun a => by fin_cases a <;> decide) (fun a => by fin_cases a <;> decide) f
  exact hr _
theorem inp_v : (inpOf m).v c = m ((c : Thread nD τ).loc main_arg4) := by
  have hr := fun f => Memref.read_access_unit_zero (Elt F) main_arg4 (show (fun a => (win0_4.index (0 : Fin 1)) a * main_arg4.ty.shape.size a) = fun _ => 0 from funext fun a => by fin_cases a <;> decide) (fun a => by fin_cases a <;> decide) f
  exact hr _

end

/-- A device's block of the keys or values, read at one of its keys, is the whole at that key's place. -/
theorem block_place (k : FVec Ideal Cert.ReferenceIdeal.S1x65536x8x128 .bf16) (p : Key) (h : Fin 8) (e : Fin 128) :
    Layout.block ⟨4, ![1, 2048, 8, 128]⟩ ⟨4, ![1, 65536, 8, 128]⟩ 1 32 p.1 k (by decide) (ix4 0 p.2 h e) = k (ix4 0 (place p) h e) := by
  rw [Layout.block_apply]
  refine congrArg k (funext fun a => Fin.ext ?_)
  rw [Layout.Tiles.idx_val]
  match a with
  | ⟨0, _⟩ => rfl
  | ⟨1, _⟩ => show p.1.val * 2048 + p.2.val = 2048 * p.1.val + p.2.val; omega
  | ⟨2, _⟩ => rfl
  | ⟨3, _⟩ => rfl

end Cert.KernelIdeal.K
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel as printed runs, keeps its arguments and leaves every counter at zero. -/
theorem frame_kernel : Cert.quiescent_Kernel := by
  intro m ρ _
  exact (θ_run Cert.Kernel.defs _ _).mono (fun _ h => ⟨fun c => (h.1 c).2, h.2⟩) (Cert.Kernel.K.ran (F := Bits) m ρ)

/-- So does it over the extended reals. -/
theorem frame_ideal : Cert.quiescent_KernelIdeal := by
  intro m ρ _
  exact (θ_run Cert.KernelIdeal.defs _ _).mono (fun _ h => ⟨fun c => (h.1 c).2, h.2⟩) (Cert.KernelIdeal.K.ran (F := Ideal) m ρ)

/-- So does the reference, which has no counter. -/
theorem frame_ref : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the named constant is one over the root of 128. -/
theorem preserves : Cert.preserves_Kernel_KernelIdeal :=
  IdealRules.named_const.statement Cert.KernelIdeal.κ "scale" .f32 0x3DB504F3#32 (((Real.sqrt 128)⁻¹ : ℝ) : EReal) rfl

/-- On the extended reals every device's result is the reference's. -/
theorem algebraic : Cert.algebraic_KernelIdeal_ReferenceIdeal := by
  intro m g m' g' _ hagree
  have hv := Cert.KernelIdeal.K.value (I := Cert.KernelIdeal.K.inpOf m)
    (x := m' (((0 : Dev Cert.ReferenceIdeal.nD).tc : Thread Cert.ReferenceIdeal.nD Cert.ReferenceIdeal.τ).loc Cert.ReferenceIdeal.main_arg0))
    (wq := m' (((0 : Dev Cert.ReferenceIdeal.nD).tc : Thread Cert.ReferenceIdeal.nD Cert.ReferenceIdeal.τ).loc Cert.ReferenceIdeal.main_arg1))
    (wo := m' (((0 : Dev Cert.ReferenceIdeal.nD).tc : Thread Cert.ReferenceIdeal.nD Cert.ReferenceIdeal.τ).loc Cert.ReferenceIdeal.main_arg2))
    (k := m' (((0 : Dev Cert.ReferenceIdeal.nD).tc : Thread Cert.ReferenceIdeal.nD Cert.ReferenceIdeal.τ).loc Cert.ReferenceIdeal.main_arg3))
    (v := m' (((0 : Dev Cert.ReferenceIdeal.nD).tc : Thread Cert.ReferenceIdeal.nD Cert.ReferenceIdeal.τ).loc Cert.ReferenceIdeal.main_arg4))
    { x := fun c => (Cert.KernelIdeal.K.inp_x m c).trans (hagree c).1
      wq := fun c => (Cert.KernelIdeal.K.inp_wq m c).trans (hagree c).2.1
      wo := fun c => (Cert.KernelIdeal.K.inp_wo m c).trans (hagree c).2.2.1
      k := fun p h e => (congrFun ((Cert.KernelIdeal.K.inp_k m p.1).trans (hagree p.1).2.2.2.1) _).trans (Cert.KernelIdeal.K.block_place _ p h e)
      v := fun p h e => (congrFun ((Cert.KernelIdeal.K.inp_v m p.1).trans (hagree p.1).2.2.2.2) _).trans (Cert.KernelIdeal.K.block_place _ p h e) }
  rw [← Cert.ReferenceIdeal.Value.out_eq m' 0] at hv
  exact ⟨Cert.ReferenceIdeal.Value.res_main_v31 m' 0,
    (θ_run Cert.KernelIdeal.defs _ _).mono (fun _ h c => ⟨(h.1 c).1.trans hv, (h.1 c).2⟩) (Cert.KernelIdeal.K.ran (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_ref, preserves, algebraic⟩

end Cert.Proof

end
